-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_attention_inputs [hPre_finite_attention_inputs : Cert.Pre_finite_attention_inputs.Facts] (m : (ℓ : Loc Cert.TailIdeal.nD Cert.TailIdeal.τ Cert.TailIdeal.sig) → Buf (Elt Ideal) ℓ) : Prop :=
  ∀ c : Dev Cert.TailIdeal.nD,
    (Cert.Pre_finite_attention_inputs.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))).1 = (fun _ => 1#1)
    ∧ (Cert.Pre_finite_attention_inputs.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))).2.1 = (fun _ => 1#1)
    ∧ (Cert.Pre_finite_attention_inputs.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))).2.2.1 = (fun _ => 1#1)
    ∧ (Cert.Pre_finite_attention_inputs.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))).2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_attention_inputs [hPre_finite_attention_inputs : Cert.Pre_finite_attention_inputs.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_attention_inputs.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10))).1 = (fun _ => 1#1)
    ∧ (Cert.Pre_finite_attention_inputs.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10))).2.1 = (fun _ => 1#1)
    ∧ (Cert.Pre_finite_attention_inputs.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10))).2.2.1 = (fun _ => 1#1)
    ∧ (Cert.Pre_finite_attention_inputs.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailIdeal_pre_finite_attention_inputs [hTailIdeal : Cert.TailIdeal.Facts] [hPre_finite_attention_inputs : Cert.Pre_finite_attention_inputs.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_attention_inputs m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_TailRefIdeal_pre_finite_attention_inputs [hTailRefIdeal : Cert.TailRefIdeal.Facts] [hPre_finite_attention_inputs : Cert.Pre_finite_attention_inputs.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_attention_inputs m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def preserves_Tail_TailIdeal : Prop :=
  True

def algebraic_TailIdeal_TailRefIdeal_pre_finite_attention_inputs [hTailIdeal : Cert.TailIdeal.Facts] [hTailRefIdeal : Cert.TailRefIdeal.Facts] [hPre_finite_attention_inputs : Cert.Pre_finite_attention_inputs.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_attention_inputs m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v120) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v11_1)) (v1 : (c : Dev Cert.ProjIdeal.nD) → Buf (Elt Ideal) ((c.tc : Thread Cert.ProjIdeal.nD Cert.ProjIdeal.τ).loc Cert.ProjIdeal.main_v11_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_1) = v0 c
          ∧ r.2.mem ((c.tc : Thread Cert.ProjIdeal.nD Cert.ProjIdeal.τ).loc Cert.ProjIdeal.main_v11_2) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v39) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hMemKv : Cert.MemKv.Facts) (hMemKvIdeal : Cert.MemKvIdeal.Facts) (hMemKvRefIdeal : Cert.MemKvRefIdeal.Facts) (hPre_finite_attention_inputs : Cert.Pre_finite_attention_inputs.Facts),
    quiescent_Tail (hTail := hTail)
    ∧ quiescent_TailIdeal (hTailIdeal := hTailIdeal)
    ∧ quiescent_TailIdeal_pre_finite_attention_inputs (hTailIdeal := hTailIdeal) (hPre_finite_attention_inputs := hPre_finite_attention_inputs)
    ∧ quiescent_TailRefIdeal (hTailRefIdeal := hTailRefIdeal)
    ∧ quiescent_TailRefIdeal_pre_finite_attention_inputs (hTailRefIdeal := hTailRefIdeal) (hPre_finite_attention_inputs := hPre_finite_attention_inputs)
    ∧ quiescent_Proj (hProj := hProj)
    ∧ quiescent_ProjIdeal (hProjIdeal := hProjIdeal)
    ∧ quiescent_ProjRefIdeal (hProjRefIdeal := hProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Tail_TailIdeal
    ∧ algebraic_TailIdeal_TailRefIdeal_pre_finite_attention_inputs (hTailIdeal := hTailIdeal) (hTailRefIdeal := hTailRefIdeal) (hPre_finite_attention_inputs := hPre_finite_attention_inputs)
    ∧ preserves_Proj_ProjIdeal
    ∧ algebraic_ProjIdeal_ProjRefIdeal (hProjIdeal := hProjIdeal) (hProjRefIdeal := hProjRefIdeal)
    ∧ preserves_MemKv_MemKvIdeal
    ∧ algebraic_MemKvIdeal_MemKvRefIdeal (hMemKvIdeal := hMemKvIdeal) (hMemKvRefIdeal := hMemKvRefIdeal)
-- ==== Pre_finite_attention_inputs.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S8x2048x768 : Shape := ⟨3, ![8, 2048, 768]⟩
abbrev S2x8x256x512 : Shape := ⟨4, ![2, 8, 256, 512]⟩
abbrev S1x768x1024 : Shape := ⟨3, ![1, 768, 1024]⟩
abbrev S2x1024 : Shape := ⟨2, ![2, 1024]⟩
abbrev S1x1024x4608 : Shape := ⟨3, ![1, 1024, 4608]⟩
abbrev S1x3x1024 : Shape := ⟨3, ![1, 3, 1024]⟩
abbrev S1x1280x1024 : Shape := ⟨3, ![1, 1280, 1024]⟩
abbrev S1024 : Shape := ⟨1, ![1024]⟩
abbrev S2x8x256x256 : Shape := ⟨4, ![2, 8, 256, 256]⟩
abbrev S1x1024 : Shape := ⟨2, ![1, 1024]⟩
abbrev S1024x4608 : Shape := ⟨2, ![1024, 4608]⟩
abbrev S1024x256 : Shape := ⟨2, ![1024, 256]⟩
abbrev S_ : Shape := ⟨0, ![]⟩

class Facts : Prop where
  slices_S2x8x256x512_S2x8x256x256_0_0_0_0 : S2x8x256x512.Slices ![0, 0, 0, 0] S2x8x256x256
  slices_S2x1024_S1x1024_1_0 : S2x1024.Slices ![1, 0] S1x1024
  shapeCasts_S1x1024_S1024 : S1x1024.ShapeCasts S1024
  shapeCasts_S1x1024x4608_S1024x4608 : S1x1024x4608.ShapeCasts S1024x4608
  slices_S1024x4608_S1024x256_0_3072 : S1024x4608.Slices ![0, 3072] S1024x256
  bitsLt_bf16_f32 : FTy.bits .bf16 < FTy.bits .f32
  bcast_S_S8x2048x256 : S_.BroadcastsInDim S8x2048x256 (![] : Fin 0 → Fin S8x2048x256.rank)
  bcast_S_S2x8x256x256 : S_.BroadcastsInDim S2x8x256x256 (![] : Fin 0 → Fin S2x8x256x256.rank)
  bcast_S_S1024 : S_.BroadcastsInDim S1024 (![] : Fin 0 → Fin S1024.rank)
  bcast_S_S1024x256 : S_.BroadcastsInDim S1024x256 (![] : Fin 0 → Fin S1024x256.rank)

variable [Facts]

def fn {F : FTy → Type} [FloatOps F] (main_arg0 : FVec F S8x2048x1024 .f32) (main_arg1 : FVec F S8x2048x512 .f32) (main_arg2 : FVec F S8x2048x256 .bf16) (main_arg3 : FVec F S8x2048x768 .f32) (main_arg4 : FVec F S2x8x256x512 .bf16) (main_arg5 : FVec F S1x768x1024 .f32) (main_arg6 : FVec F S2x1024 .f32) (main_arg7 : FVec F S1x1024x4608 .f32) (main_arg8 : FVec F S1x3x1024 .f32) (main_arg9 : FVec F S1x1280x1024 .f32) (main_arg10 : FVec F S1024 .f32) : IVec S8x2048x256 1 × IVec S2x8x256x256 1 × IVec S1024 1 × IVec S1024x256 1 :=
  let main_v0 : FVec F S2x8x256x256 .bf16 := (extractStridedSlice S2x8x256x256 ![0, 0, 0, 0] · slices_S2x8x256x512_S2x8x256x256_0_0_0_0) main_arg4
  let main_v1 : FVec F S1x1024 .f32 := (extractStridedSlice S1x1024 ![1, 0] · slices_S2x1024_S1x1024_1_0) main_arg6
  let main_v2 : FVec F S1024 .f32 := shapeCast S1024 main_v1 shapeCasts_S1x1024_S1024
  let main_v3 : FVec F S1024x4608 .f32 := shapeCast S1024x4608 main_arg7 shapeCasts_S1x1024x4608_S1024x4608
  let main_v4 : FVec F S1024x256 .f32 := (extractStridedSlice S1024x256 ![0, 3072] · slices_S1024x4608_S1024x256_0_3072) main_v3
  let main_v5 : FVec F S8x2048x256 .f32 := (extf .f32 · bitsLt_bf16_f32) main_arg2
  let main_v6 : FVec F S8x2048x256 .f32 := Host.absf main_v5
  let main_cst : FVec F S_ .f32 := constant S_ .f32 0x7F800000#32
  let main_v7 : FVec F S8x2048x256 .f32 := broadcastInDim S8x2048x256 ![] bcast_S_S8x2048x256 main_cst
  let main_v8 : IVec S8x2048x256 1 := cmpf .olt main_v6 main_v7
  let main_v9 : FVec F S2x8x256x256 .f32 := (extf .f32 · bitsLt_bf16_f32) main_v0
  let main_v10 : FVec F S2x8x256x256 .f32 := Host.absf main_v9
  let main_cst_0 : FVec F S_ .f32 := constant S_ .f32 0x7F800000#32
  let main_v11 : FVec F S2x8x256x256 .f32 := broadcastInDim S2x8x256x256 ![] bcast_S_S2x8x256x256 main_cst_0
  let main_v12 : IVec S2x8x256x256 1 := cmpf .olt main_v10 main_v11
  let main_v13 : FVec F S1024 .f32 := Host.absf main_v2
  let main_cst_1 : FVec F S_ .f32 := constant S_ .f32 0x7F800000#32
  let main_v14 : FVec F S1024 .f32 := broadcastInDim S1024 ![] bcast_S_S1024 main_cst_1
  let main_v15 : IVec S1024 1 := cmpf .olt main_v13 main_v14
  let main_v16 : FVec F S1024x256 .f32 := Host.absf main_v4
  let main_cst_2 : FVec F S_ .f32 := constant S_ .f32 0x7F800000#32
  let main_v17 : FVec F S1024x256 .f32 := broadcastInDim S1024x256 ![] bcast_S_S1024x256 main_cst_2
  let main_v18 : IVec S1024x256 1 := cmpf .olt main_v16 main_v17
  (main_v8, main_v12, main_v15, main_v18)
-- ==== Tail.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S8x2048x768 : Shape := ⟨3, ![8, 2048, 768]⟩
abbrev S2x8x256x512 : Shape := ⟨4, ![2, 8, 256, 512]⟩
abbrev S1x768x1024 : Shape := ⟨3, ![1, 768, 1024]⟩
abbrev S2x1024 : Shape := ⟨2, ![2, 1024]⟩
abbrev S1x1024x4608 : Shape := ⟨3, ![1, 1024, 4608]⟩
abbrev S1x3x1024 : Shape := ⟨3, ![1, 3, 1024]⟩
abbrev S1x1280x1024 : Shape := ⟨3, ![1, 1280, 1024]⟩
abbrev S1024 : Shape := ⟨1, ![1024]⟩
abbrev S4608 : Shape := ⟨1, ![4608]⟩
abbrev S1024x4608 : Shape := ⟨2, ![1024, 4608]⟩
abbrev S1x4608 : Shape := ⟨2, ![1, 4608]⟩
abbrev S768x1024 : Shape := ⟨2, ![768, 1024]⟩
abbrev S1280x1024 : Shape := ⟨2, ![1280, 1024]⟩
abbrev S1x1024 : Shape := ⟨2, ![1, 1024]⟩
abbrev S3x1024 : Shape := ⟨2, ![3, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x512x768 : Shape := ⟨3, ![1, 512, 768]⟩
abbrev S1x1x256x512 : Shape := ⟨4, ![1, 1, 256, 512]⟩
abbrev S520x1024 : Shape := ⟨2, ![520, 1024]⟩
abbrev S512x1280 : Shape := ⟨2, ![512, 1280]⟩
abbrev S512x1024 : Shape := ⟨2, ![512, 1024]⟩
abbrev S512x256 : Shape := ⟨2, ![512, 256]⟩
abbrev S1x128 : Shape := ⟨2, ![1, 128]⟩
abbrev S512x128 : Shape := ⟨2, ![512, 128]⟩
abbrev S1024x128 : Shape := ⟨2, ![1024, 128]⟩
abbrev S1x1x256x128 : Shape := ⟨4, ![1, 1, 256, 128]⟩
abbrev S256x128 : Shape := ⟨2, ![256, 128]⟩
abbrev S1024x256 : Shape := ⟨2, ![1024, 256]⟩
abbrev S1024x1 : Shape := ⟨2, ![1024, 1]⟩
abbrev S512x768 : Shape := ⟨2, ![512, 768]⟩
abbrev S512x512 : Shape := ⟨2, ![512, 512]⟩
abbrev S768x256 : Shape := ⟨2, ![768, 256]⟩
abbrev S512 : Shape := ⟨1, ![512]⟩
abbrev S512x1 : Shape := ⟨2, ![512, 1]⟩
abbrev S8x1024 : Shape := ⟨2, ![8, 1024]⟩
abbrev S1x256 : Shape := ⟨2, ![1, 256]⟩
abbrev S1280x256 : Shape := ⟨2, ![1280, 256]⟩

abbrev nBuf : Space → Nat
  | .hbm => 25
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x256, .bf16⟩
  | .hbm, ⟨3, _⟩ => ⟨S8x2048x768, .f32⟩
  | .hbm, ⟨4, _⟩ => ⟨S2x8x256x512, .bf16⟩
  | .hbm, ⟨5, _⟩ => ⟨S1x768x1024, .f32⟩
  | .hbm, ⟨6, _⟩ => ⟨S2x1024, .f32⟩
  | .hbm, ⟨7, _⟩ => ⟨S1x1024x4608, .f32⟩
  | .hbm, ⟨8, _⟩ => ⟨S1x3x1024, .f32⟩
  | .hbm, ⟨9, _⟩ => ⟨S1x1280x1024, .f32⟩
  | .hbm, ⟨10, _⟩ => ⟨S1024, .f32⟩
  | .hbm, ⟨11, _⟩ => ⟨S4608, .f32⟩
  | .hbm, ⟨12, _⟩ => ⟨S1024x4608, .f32⟩
  | .hbm, ⟨13, _⟩ => ⟨S1x4608, .f32⟩
  | .hbm, ⟨14, _⟩ => ⟨S1024x4608, .f32⟩
  | .hbm, ⟨15, _⟩ => ⟨S1024x4608, .f32⟩
  | .hbm, ⟨16, _⟩ => ⟨S1024x4608, .bf16⟩
  | .hbm, ⟨17, _⟩ => ⟨S768x1024, .f32⟩
  | .hbm, ⟨18, _⟩ => ⟨S768x1024, .bf16⟩
  | .hbm, ⟨19, _⟩ => ⟨S1280x1024, .f32⟩
  | .hbm, ⟨20, _⟩ => ⟨S1280x1024, .bf16⟩
  | .hbm, ⟨21, _⟩ => ⟨S1x1024, .f32⟩
  | .hbm, ⟨22, _⟩ => ⟨S3x1024, .f32⟩
  | .hbm, ⟨23, _⟩ => ⟨S1x1024, .f32⟩
  | .hbm, ⟨24, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .bf16⟩
  | .local _ .vmem, ⟨5, _⟩ => ⟨S1x512x256, .bf16⟩
  | .local _ .vmem, ⟨6, _⟩ => ⟨S1x512x768, .f32⟩
  | .local _ .vmem, ⟨7, _⟩ => ⟨S1x512x768, .f32⟩
  | .local _ .vmem, ⟨8, _⟩ => ⟨S1x1x256x512, .bf16⟩
  | .local _ .vmem, ⟨9, _⟩ => ⟨S1x1x256x512, .bf16⟩
  | .local _ .vmem, ⟨10, _⟩ => ⟨S768x1024, .bf16⟩
  | .local _ .vmem, ⟨11, _⟩ => ⟨S1x1024, .f32⟩
  | .local _ .vmem, ⟨12, _⟩ => ⟨S1024x4608, .bf16⟩
  | .local _ .vmem, ⟨13, _⟩ => ⟨S3x1024, .f32⟩
  | .local _ .vmem, ⟨14, _⟩ => ⟨S1x1x256x512, .bf16⟩
  | .local _ .vmem, ⟨15, _⟩ => ⟨S1x1x256x512, .bf16⟩
  | .local _ .vmem, ⟨16, _⟩ => ⟨S1280x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S520x1024, .f32⟩
  | .local _ .vmem, ⟨21, _⟩ => ⟨S512x1280, .bf16⟩
  | .local _ .vmem, ⟨22, _⟩ => ⟨S512x1024, .f32⟩
  | .local _ .vmem, ⟨23, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== TailRefIdeal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S8x2048x768 : Shape := ⟨3, ![8, 2048, 768]⟩
abbrev S2x8x256x512 : Shape := ⟨4, ![2, 8, 256, 512]⟩
abbrev S1x768x1024 : Shape := ⟨3, ![1, 768, 1024]⟩
abbrev S2x1024 : Shape := ⟨2, ![2, 1024]⟩
abbrev S1x1024x4608 : Shape := ⟨3, ![1, 1024, 4608]⟩
abbrev S1x3x1024 : Shape := ⟨3, ![1, 3, 1024]⟩
abbrev S1x1280x1024 : Shape := ⟨3, ![1, 1280, 1024]⟩
abbrev S1024 : Shape := ⟨1, ![1024]⟩
abbrev S1x8x256x512 : Shape := ⟨4, ![1, 8, 256, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S8x2048x4x64 : Shape := ⟨4, ![8, 2048, 4, 64]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S768x1024 : Shape := ⟨2, ![768, 1024]⟩
abbrev S1x1024 : Shape := ⟨2, ![1, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x4608 : Shape := ⟨2, ![1024, 4608]⟩
abbrev S8x2048x4608 : Shape := ⟨3, ![8, 2048, 4608]⟩
abbrev S8x2048x1280 : Shape := ⟨3, ![8, 2048, 1280]⟩
abbrev S3x1024 : Shape := ⟨2, ![3, 1024]⟩
abbrev S8x2050x1024 : Shape := ⟨3, ![8, 2050, 1024]⟩
abbrev S1280x1024 : Shape := ⟨2, ![1280, 1024]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x256, .bf16⟩
  | 3 => ⟨S8x2048x768, .f32⟩
  | 4 => ⟨S2x8x256x512, .bf16⟩
  | 5 => ⟨S1x768x1024, .f32⟩
  | 6 => ⟨S2x1024, .f32⟩
  | 7 => ⟨S1x1024x4608, .f32⟩
  | 8 => ⟨S1x3x1024, .f32⟩
  | 9 => ⟨S1x1280x1024, .f32⟩
  | 10 => ⟨S1024, .f32⟩
  | 11 => ⟨S2x8x256x512, .f32⟩
  | 12 => ⟨S8x2048x256, .f32⟩
  | 13 => ⟨S1x8x256x512, .f32⟩
  | 14 => ⟨S8x256x512, .f32⟩
  | 15 => ⟨S8x256x256, .f32⟩
  | 16 => ⟨S8x256x256, .f32⟩
  | 17 => ⟨S8x256x4x64, .f32⟩
  | 18 => ⟨S8x256x4x64, .f32⟩
  | 19 => ⟨S8x2048x4x64, .f32⟩
  | 20 => ⟨S8x4x2048x256, .f32⟩
  | 21 => ⟨S_, .f32⟩
  | 22 => ⟨S8x4x2048x256, .f32⟩
  | 23 => ⟨S8x4x2048x256, .f32⟩
  | 24 => ⟨S_, .f32⟩
  | 25 => ⟨S8x4x2048, .f32⟩
  | 26 => ⟨S_, .f32⟩
  | 27 => ⟨S8x4x2048, .f32⟩
  | 28 => ⟨S8x4x2048, .f32⟩
  | 29 => ⟨S8x4x2048x1, .f32⟩
  | 30 => ⟨S8x4x2048x256, .f32⟩
  | 31 => ⟨S8x4x2048x256, .f32⟩
  | 32 => ⟨S8x4x2048x256, .f32⟩
  | 33 => ⟨S_, .f32⟩
  | 34 => ⟨S8x4x2048, .f32⟩
  | 35 => ⟨S8x4x2048x1, .f32⟩
  | 36 => ⟨S8x4x2048x256, .f32⟩
  | 37 => ⟨S8x4x2048x256, .f32⟩
  | 38 => ⟨S8x4x64x2048, .f32⟩
  | 39 => ⟨S8x2048x4x64, .f32⟩
  | 40 => ⟨S8x2048x256, .f32⟩
  | 41 => ⟨S8x2048x768, .f32⟩
  | 42 => ⟨S8x2048x768, .f32⟩
  | 43 => ⟨S8x2048x768, .f32⟩
  | 44 => ⟨S_, .f32⟩
  | 45 => ⟨S8x2048x768, .f32⟩
  | 46 => ⟨S8x2048x768, .f32⟩
  | 47 => ⟨S_, .f32⟩
  | 48 => ⟨S8x2048x768, .f32⟩
  | 49 => ⟨S8x2048x768, .f32⟩
  | 50 => ⟨S8x2048x768, .f32⟩
  | 51 => ⟨S8x2048x768, .f32⟩
  | 52 => ⟨S768x1024, .f32⟩
  | 53 => ⟨S8x2048x1024, .f32⟩
  | 54 => ⟨S8x2048x1024, .f32⟩
  | 55 => ⟨S1x1024, .f32⟩
  | 56 => ⟨S1024, .f32⟩
  | 57 => ⟨S8x2048x1024, .f32⟩
  | 58 => ⟨S_, .f32⟩
  | 59 => ⟨S8x2048, .f32⟩
  | 60 => ⟨S8x2048x1, .f32⟩
  | 61 => ⟨S_, .f32⟩
  | 62 => ⟨S8x2048x1, .f32⟩
  | 63 => ⟨S8x2048x1, .f32⟩
  | 64 => ⟨S_, .f32⟩
  | 65 => ⟨S8x2048x1, .f32⟩
  | 66 => ⟨S8x2048x1, .f32⟩
  | 67 => ⟨S8x2048x1, .f32⟩
  | 68 => ⟨S8x2048x1024, .f32⟩
  | 69 => ⟨S8x2048x1024, .f32⟩
  | 70 => ⟨S1x1x1024, .f32⟩
  | 71 => ⟨S8x2048x1024, .f32⟩
  | 72 => ⟨S8x2048x1024, .f32⟩
  | 73 => ⟨S1024x4608, .f32⟩
  | 74 => ⟨S8x2048x4608, .f32⟩
  | 75 => ⟨S8x2048x1024, .f32⟩
  | 76 => ⟨S8x2048x1024, .f32⟩
  | 77 => ⟨S8x2048x1024, .f32⟩
  | 78 => ⟨S8x2048x256, .f32⟩
  | 79 => ⟨S8x2048x1280, .f32⟩
  | 80 => ⟨S8x2048x1024, .f32⟩
  | 81 => ⟨S3x1024, .f32⟩
  | 82 => ⟨S_, .i32⟩
  | 83 => ⟨S_, .f32⟩
  | 84 => ⟨S8x2050x1024, .f32⟩
  | 85 => ⟨S1x1024, .f32⟩
  | 86 => ⟨S1024, .f32⟩
  | 87 => ⟨S8x2048x1024, .f32⟩
  | 88 => ⟨S1x1x1024, .f32⟩
  | 89 => ⟨S8x2048x1024, .f32⟩
  | 90 => ⟨S8x2048x1024, .f32⟩
  | 91 => ⟨S1x1024, .f32⟩
  | 92 => ⟨S1024, .f32⟩
  | 93 => ⟨S8x2048x1024, .f32⟩
  | 94 => ⟨S1x1x1024, .f32⟩
  | 95 => ⟨S8x2048x1024, .f32⟩
  | 96 => ⟨S8x2048x1024, .f32⟩
  | 97 => ⟨S8x2048x1024, .f32⟩
  | 98 => ⟨S1x1024, .f32⟩
  | 99 => ⟨S1024, .f32⟩
  | 100 => ⟨S8x2048x1024, .f32⟩
  | 101 => ⟨S1x1x1024, .f32⟩
  | 102 => ⟨S8x2048x1024, .f32⟩
  | 103 => ⟨S8x2048x1024, .f32⟩
  | 104 => ⟨S8x2048x1024, .f32⟩
  | 105 => ⟨S8x2048x1024, .f32⟩
  | 106 => ⟨S1x8x256x512, .f32⟩
  | 107 => ⟨S8x256x512, .f32⟩
  | 108 => ⟨S8x256x256, .f32⟩
  | 109 => ⟨S8x256x256, .f32⟩
  | 110 => ⟨S8x256x4x64, .f32⟩
  | 111 => ⟨S8x256x4x64, .f32⟩
  | 112 => ⟨S8x2048x4x64, .f32⟩
  | 113 => ⟨S8x4x2048x256, .f32⟩
  | 114 => ⟨S_, .f32⟩
  | 115 => ⟨S8x4x2048x256, .f32⟩
  | 116 => ⟨S8x4x2048x256, .f32⟩
  | 117 => ⟨S_, .f32⟩
  | 118 => ⟨S8x4x2048, .f32⟩
  | 119 => ⟨S_, .f32⟩
  | 120 => ⟨S8x4x2048, .f32⟩
  | 121 => ⟨S8x4x2048, .f32⟩
  | 122 => ⟨S8x4x2048x1, .f32⟩
  | 123 => ⟨S8x4x2048x256, .f32⟩
  | 124 => ⟨S8x4x2048x256, .f32⟩
  | 125 => ⟨S8x4x2048x256, .f32⟩
  | 126 => ⟨S_, .f32⟩
  | 127 => ⟨S8x4x2048, .f32⟩
  | _ => ⟨S8x2048x1024, .f32⟩

abbrev hbmTy0_1 (i : Nat) : BufTy := match i % 128 with
  | 0 => ⟨S8x4x2048x1, .f32⟩
  | 1 => ⟨S8x4x2048x256, .f32⟩
  | 2 => ⟨S8x4x2048x256, .f32⟩
  | 3 => ⟨S8x4x64x2048, .f32⟩
  | 4 => ⟨S8x2048x4x64, .f32⟩
  | 5 => ⟨S8x2048x256, .f32⟩
  | 6 => ⟨S8x2048x1280, .f32⟩
  | 7 => ⟨S8x2048x1280, .f32⟩
  | 8 => ⟨S8x2048x1280, .f32⟩
  | 9 => ⟨S_, .f32⟩
  | 10 => ⟨S8x2048x1280, .f32⟩
  | 11 => ⟨S8x2048x1280, .f32⟩
  | 12 => ⟨S_, .f32⟩
  | 13 => ⟨S8x2048x1280, .f32⟩
  | 14 => ⟨S8x2048x1280, .f32⟩
  | 15 => ⟨S8x2048x1280, .f32⟩
  | 16 => ⟨S8x2048x1280, .f32⟩
  | 17 => ⟨S1280x1024, .f32⟩
  | 18 => ⟨S8x2048x1024, .f32⟩
  | 19 => ⟨S8x2048x1024, .f32⟩
  | 20 => ⟨S8x2048x1024, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S_, .f32⟩
  | 28 => ⟨S8x2048x1, .f32⟩
  | 29 => ⟨S8x2048x1, .f32⟩
  | 30 => ⟨S8x2048x1, .f32⟩
  | 31 => ⟨S8x2048x1024, .f32⟩
  | 32 => ⟨S8x2048x1024, .f32⟩
  | 33 => ⟨S1x1x1024, .f32⟩
  | 34 => ⟨S8x2048x1024, .f32⟩
  | 35 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_6 : Ref sig .tc := ⟨.hbm, 114, rfl⟩
abbrev main_v86 : Ref sig .tc := ⟨.hbm, 115, rfl⟩
abbrev main_v87 : Ref sig .tc := ⟨.hbm, 116, rfl⟩
abbrev main_cst_7 : Ref sig .tc := ⟨.hbm, 117, rfl⟩
abbrev main_v88 : Ref sig .tc := ⟨.hbm, 118, rfl⟩
abbrev main_cst_8 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_9 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call2_v0 : Ref sig .tc := ⟨.hbm, 135, rfl⟩
abbrev main_call2_v1 : Ref sig .tc := ⟨.hbm, 136, rfl⟩
abbrev main_call2_cst : Ref sig .tc := ⟨.hbm, 137, rfl⟩
abbrev main_call2_v2 : Ref sig .tc := ⟨.hbm, 138, rfl⟩
abbrev main_call2_v3 : Ref sig .tc := ⟨.hbm, 139, rfl⟩
abbrev main_call2_cst_0 : Ref sig .tc := ⟨.hbm, 140, rfl⟩
abbrev main_call2_v4 : Ref sig .tc := ⟨.hbm, 141, rfl⟩
abbrev main_call2_v5 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_10 : Ref sig .tc := ⟨.hbm, 149, rfl⟩
abbrev main_v109 : Ref sig .tc := ⟨.hbm, 150, rfl⟩
abbrev main_v110 : Ref sig .tc := ⟨.hbm, 151, rfl⟩
abbrev main_cst_11 : Ref sig .tc := ⟨.hbm, 152, rfl⟩
abbrev main_v111 : Ref sig .tc := ⟨.hbm, 153, rfl⟩
abbrev main_v112 : Ref sig .tc := ⟨.hbm, 154, rfl⟩
abbrev main_cst_12 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]
-- ==== Proj.lean ====
abbrev S8x2048x1024 : Shape := ⟨3, ![8, 2048, 1024]⟩
abbrev S8x2048x128 : Shape := ⟨3, ![8, 2048, 128]⟩
abbrev S2x1024 : Shape := ⟨2, ![2, 1024]⟩
abbrev S1x1024x5632 : Shape := ⟨3, ![1, 1024, 5632]⟩
abbrev S5632 : Shape := ⟨1, ![5632]⟩
abbrev S1024x5632 : Shape := ⟨2, ![1024, 5632]⟩
abbrev S_ : Shape := ⟨0, ![]⟩
abbrev S5632x1 : Shape := ⟨2, ![5632, 1]⟩
abbrev S1x5632 : Shape := ⟨2, ![1, 5632]⟩
abbrev S1x1024 : Shape := ⟨2, ![1, 1024]⟩
abbrev S8x2048x1536 : Shape := ⟨3, ![8, 2048, 1536]⟩
abbrev S8x2048x256 : Shape := ⟨3, ![8, 2048, 256]⟩
abbrev S8x2048x768 : Shape := ⟨3, ![8, 2048, 768]⟩
abbrev S8x4x512x1536 : Shape := ⟨4, ![8, 4, 512, 1536]⟩
abbrev S8x16x128x1536 : Shape := ⟨4, ![8, 16, 128, 1536]⟩
abbrev S1x512x1024 : Shape := ⟨3, ![1, 512, 1024]⟩
abbrev S1x512x128 : Shape := ⟨3, ![1, 512, 128]⟩
abbrev S1x512x1536 : Shape := ⟨3, ![1, 512, 1536]⟩
abbrev S1x512x256 : Shape := ⟨3, ![1, 512, 256]⟩
abbrev S1x512x768 : Shape := ⟨3, ![1, 512, 768]⟩
abbrev S1x4x128x1536 : Shape := ⟨4, ![1, 4, 128, 1536]⟩
abbrev S1x16x32x1536 : Shape := ⟨4, ![1, 16, 32, 1536]⟩
abbrev S8x512x128 : Shape := ⟨3, ![8, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S128x256 : Shape := ⟨2, ![128, 256]⟩
abbrev S1x1x128x256 : Shape := ⟨4, ![1, 1, 128, 256]⟩
abbrev S1x32x128 : Shape := ⟨3, ![1, 32, 128]⟩
abbrev S32x128 : Shape := ⟨2, ![32, 128]⟩
abbrev S32x256 : Shape := ⟨2, ![32, 256]⟩
abbrev S1x1x32x256 : Shape := ⟨4, ![1, 1, 32, 256]⟩

abbrev nBuf : Space → Nat
  | .hbm => 25
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x128, .f32⟩
  | .hbm, ⟨2, _⟩ => ⟨S8x2048x128, .f32⟩
  | .hbm, ⟨3, _⟩ => ⟨S2x1024, .f32⟩
  | .hbm, ⟨4, _⟩ => ⟨S1x1024x5632, .f32⟩
  | .hbm, ⟨5, _⟩ => ⟨S5632, .i32⟩
  | .hbm, ⟨6, _⟩ => ⟨S5632, .i1⟩
  | .hbm, ⟨7, _⟩ => ⟨S5632, .f32⟩
  | .hbm, ⟨8, _⟩ => ⟨S1024x5632, .f32⟩
  | .hbm, ⟨9, _⟩ => ⟨S_, .i32⟩
  | .hbm, ⟨10, _⟩ => ⟨S5632, .i32⟩
  | .hbm, ⟨11, _⟩ => ⟨S5632, .i32⟩
  | .hbm, ⟨12, _⟩ => ⟨S5632, .i32⟩
  | .hbm, ⟨13, _⟩ => ⟨S5632x1, .i32⟩
  | .hbm, ⟨14, _⟩ => ⟨S1024x5632, .f32⟩
  | .hbm, ⟨15, _⟩ => ⟨S1x5632, .f32⟩
  | .hbm, ⟨16, _⟩ => ⟨S1024x5632, .f32⟩
  | .hbm, ⟨17, _⟩ => ⟨S1024x5632, .f32⟩
  | .hbm, ⟨18, _⟩ => ⟨S1024x5632, .bf16⟩
  | .hbm, ⟨19, _⟩ => ⟨S1x1024, .f32⟩
  | .hbm, ⟨20, _⟩ => ⟨S8x2048x1536, .bf16⟩
  | .hbm, ⟨21, _⟩ => ⟨S8x2048x256, .bf16⟩
  | .hbm, ⟨22, _⟩ => ⟨S8x2048x768, .f32⟩
  | .hbm, ⟨23, _⟩ => ⟨S8x4x512x1536, .bf16⟩
  | .hbm, ⟨24, _⟩ => ⟨S8x16x128x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1024x5632, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x768, .f32⟩
  | .local _ .vmem, ⟨13, _⟩ => ⟨S1x512x768, .f32⟩
  | .local _ .vmem, ⟨14, _⟩ => ⟨S1x4x128x1536, .bf16⟩
  | .local _ .vmem, ⟨15, _⟩ => ⟨S1x4x128x1536, .bf16⟩
  | .local _ .vmem, ⟨16, _⟩ => ⟨S1x16x32x1536, .bf16⟩
  | .local _ .vmem, ⟨17, _⟩ => ⟨S1x16x32x1536, .bf16⟩
  | .local _ .vmem, ⟨18, _⟩ => ⟨S8x512x128, .f32⟩
  | .local _ .vmem, ⟨19, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_c_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x32x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S8x2048x1024 : Shape := ⟨3, ![8, 2048, 1024]⟩
abbrev S8x2048x128 : Shape := ⟨3, ![8, 2048, 128]⟩
abbrev S2x1024 : Shape := ⟨2, ![2, 1024]⟩
abbrev S1x1024x5632 : Shape := ⟨3, ![1, 1024, 5632]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x1536 : Shape := ⟨3, ![8, 2048, 1536]⟩
abbrev S8x2048x256 : Shape := ⟨3, ![8, 2048, 256]⟩
abbrev S8x2048x768 : Shape := ⟨3, ![8, 2048, 768]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x128, .f32⟩
  | .hbm, ⟨2, _⟩ => ⟨S8x2048x128, .f32⟩
  | .hbm, ⟨3, _⟩ => ⟨S2x1024, .f32⟩
  | .hbm, ⟨4, _⟩ => ⟨S1x1024x5632, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x5632, .f32⟩
  | .hbm, ⟨24, _⟩ => ⟨S8x2048x5632, .f32⟩
  | .hbm, ⟨25, _⟩ => ⟨S8x2048x1536, .f32⟩
  | .hbm, ⟨26, _⟩ => ⟨S8x2048x1536, .f32⟩
  | .hbm, ⟨27, _⟩ => ⟨S8x2048x1536, .f32⟩
  | .hbm, ⟨28, _⟩ => ⟨S8x2048x256, .f32⟩
  | .hbm, ⟨29, _⟩ => ⟨S8x2048x768, .f32⟩
  | .hbm, ⟨30, _⟩ => ⟨S_, .f32⟩
  | .hbm, ⟨31, _⟩ => ⟨S8x2048x256, .f32⟩
  | .hbm, ⟨32, _⟩ => ⟨S8x2048x256, .f32⟩
  | .hbm, ⟨33, _⟩ => ⟨S8x2048x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MemKv.lean ====
abbrev S8x256x1024 : Shape := ⟨3, ![8, 256, 1024]⟩
abbrev S2x1024 : Shape := ⟨2, ![2, 1024]⟩
abbrev S2x1024x512 : Shape := ⟨3, ![2, 1024, 512]⟩
abbrev S2x1x1024 : Shape := ⟨3, ![2, 1, 1024]⟩
abbrev S2x8x256x512 : Shape := ⟨4, ![2, 8, 256, 512]⟩
abbrev S1x256x1024 : Shape := ⟨3, ![1, 256, 1024]⟩
abbrev S1x1x1024 : Shape := ⟨3, ![1, 1, 1024]⟩
abbrev S1x1024x512 : Shape := ⟨3, ![1, 1024, 512]⟩
abbrev S1x1x256x512 : Shape := ⟨4, ![1, 1, 256, 512]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x512 : Shape := ⟨2, ![1024, 512]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S2x1024x512, .bf16⟩
  | .hbm, ⟨4, _⟩ => ⟨S2x1x1024, .f32⟩
  | .hbm, ⟨5, _⟩ => ⟨S2x8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1x256x512, .bf16⟩
  | .local _ .vmem, ⟨7, _⟩ => ⟨S1x1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S8x256x512 : Shape := ⟨3, ![8, 256, 512]⟩
abbrev S1x8x256x512 : Shape := ⟨4, ![1, 8, 256, 512]⟩
abbrev S2x8x256x512 : Shape := ⟨4, ![2, 8, 256, 512]⟩

abbrev nBuf : Space → Nat
  | .hbm => 49
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x512, .f32⟩
  | .hbm, ⟨22, _⟩ => ⟨S1024x512, .f32⟩
  | .hbm, ⟨23, _⟩ => ⟨S8x256x512, .f32⟩
  | .hbm, ⟨24, _⟩ => ⟨S1x1024, .f32⟩
  | .hbm, ⟨25, _⟩ => ⟨S1024, .f32⟩
  | .hbm, ⟨26, _⟩ => ⟨S8x256x1024, .f32⟩
  | .hbm, ⟨27, _⟩ => ⟨S_, .f32⟩
  | .hbm, ⟨28, _⟩ => ⟨S8x256, .f32⟩
  | .hbm, ⟨29, _⟩ => ⟨S8x256x1, .f32⟩
  | .hbm, ⟨30, _⟩ => ⟨S_, .f32⟩
  | .hbm, ⟨31, _⟩ => ⟨S8x256x1, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S8x256x1, .f32⟩
  | .hbm, ⟨37, _⟩ => ⟨S8x256x1024, .f32⟩
  | .hbm, ⟨38, _⟩ => ⟨S8x256x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1024x512, .f32⟩
  | .hbm, ⟨43, _⟩ => ⟨S1024x512, .f32⟩
  | .hbm, ⟨44, _⟩ => ⟨S8x256x512, .f32⟩
  | .hbm, ⟨45, _⟩ => ⟨S1x8x256x512, .f32⟩
  | .hbm, ⟨46, _⟩ => ⟨S1x8x256x512, .f32⟩
  | .hbm, ⟨47, _⟩ => ⟨S2x8x256x512, .f32⟩
  | .hbm, ⟨48, _⟩ => ⟨S2x8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Reals.lean ====
module
public import Idealize.ShloMosaic.Lib.Pointwise
public import Idealize.ShloMosaic.Lib.IdealHost
@[expose] public section

/-! # Extended reals that are real, and the scalar functions of the layer on them -/

noncomputable section
namespace Cert.Reals
open Idealize.ShloMosaic

/-- `x` is a real number: neither of the two infinities. -/
def IsReal (x : EReal) : Prop := ∃ r : ℝ, x = (r : EReal)

theorem isReal_iff (x : EReal) : IsReal x ↔ x ≠ ⊥ ∧ x ≠ ⊤ := by
  constructor
  · rintro ⟨r, rfl⟩; exact ⟨EReal.coe_ne_bot r, EReal.coe_ne_top r⟩
  · rintro ⟨h1, h2⟩
    induction x with
    | bot => exact absurd rfl h1
    | top => exact absurd rfl h2
    | coe r => exact ⟨r, rfl⟩

theorem isReal_coe (r : ℝ) : IsReal (r : EReal) := ⟨r, rfl⟩

theorem IsReal.mul {x y : EReal} (hx : IsReal x) (hy : IsReal y) : IsReal (x * y) := by
  obtain ⟨a, rfl⟩ := hx; obtain ⟨b, rfl⟩ := hy
  exact ⟨a * b, by norm_cast⟩

theorem IsReal.add {x y : EReal} (hx : IsReal x) (hy : IsReal y) : IsReal (x + y) := by
  obtain ⟨a, rfl⟩ := hx; obtain ⟨b, rfl⟩ := hy
  exact ⟨a + b, by norm_cast⟩

/-- A sum of reals, as the real it is. -/
theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem IsReal.sum {n : ℕ} {f : Fin n → EReal} (h : ∀ i, IsReal (f i)) : IsReal (∑ i, f i) := by
  choose g hg using h
  exact ⟨∑ i, g i, by simp only [hg]; exact sum_coe g⟩

/-- Multiplication by a real that is not negative passes through a sum. -/
theorem sum_mul_coe {n : ℕ} (f : Fin n → EReal) {r : ℝ} (hr : 0 ≤ r) :
    (∑ i, f i) * (r : EReal) = ∑ i, f i * (r : EReal) := by
  induction n with
  | zero => simp
  | succ n ih =>
    rw [Fin.sum_univ_succ, Fin.sum_univ_succ, ← ih,
      EReal.right_distrib_of_nonneg_of_ne_top (EReal.coe_nonneg.mpr hr) (EReal.coe_ne_top r)]

/-- A sum over `n = a + b` entries is the sum over the first `a` and that over the last `b`. -/
theorem sum_split {n : ℕ} (a b : ℕ) (h : a + b = n) (f : Fin n → EReal) :
    ∑ i, f i = (∑ i : Fin a, f ⟨i.val, by omega⟩) + ∑ i : Fin b, f ⟨a + i.val, by omega⟩ := by
  subst h; exact Fin.sum_univ_add f

/-- Three summands, each equal to its counterpart, the last two sums. -/
theorem add_sums_congr {m n : ℕ} {a a' : EReal} {f f' : Fin m → EReal} {g g' : Fin n → EReal} (ha : a = a')
    (hf : ∀ i, f i = f' i) (hg : ∀ i, g i = g' i) : a + (∑ i, f i + ∑ i, g i) = a' + (∑ i, f' i + ∑ i, g' i) := by
  rw [ha, funext hf, funext hg]

/-- The greatest entry of a row. -/
def rowMax {n : ℕ} (S : Fin n → EReal) : EReal := Finset.univ.fold max ⊥ S

theorem rowMax_eq_sup {n : ℕ} (S : Fin n → EReal) : rowMax S = Finset.univ.sup S := rfl

/-- The greatest of real entries, of which there is one, is real. -/
theorem isReal_rowMax {n : ℕ} {S : Fin n → EReal} (h0 : 0 < n) (h : ∀ i, IsReal (S i)) : IsReal (rowMax S) := by
  rw [rowMax_eq_sup]
  obtain ⟨i, _, hi⟩ := Finset.exists_mem_eq_sup (Finset.univ : Finset (Fin n)) ⟨⟨0, h0⟩, Finset.mem_univ _⟩ S
  rw [hi]; exact h i

/-- The numerator of a softmax weight: the exponential of a score less the row's greatest. -/
def expw {n : ℕ} (S : Fin n → EReal) (j : Fin n) : EReal := Ideal.exp (S j - rowMax S)

/-- For real scores the numerators are positive reals. -/
theorem expw_pos {n : ℕ} {S : Fin n → EReal} (h0 : 0 < n) (h : ∀ i, IsReal (S i)) (j : Fin n) :
    ∃ r : ℝ, 0 < r ∧ expw S j = (r : EReal) := by
  obtain ⟨a, ha⟩ := h j
  obtain ⟨b, hb⟩ := isReal_rowMax h0 h
  refine ⟨Real.exp (a - b), Real.exp_pos _, ?_⟩
  rw [expw, ha, hb, ← EReal.coe_sub, Ideal.exp_coe]

/-- Attention of one query row: the values weighted by the softmax of the scores. -/
def attend {n : ℕ} (S v : Fin n → EReal) : EReal :=
  ∑ j, v j * Ideal.div (expw S j) (∑ k, expw S k)

/-- For real scores the weights' common divisor may be divided by once, after the weighted sum. -/
theorem div_sum_eq_attend {n : ℕ} {S : Fin n → EReal} (h0 : 0 < n) (h : ∀ i, IsReal (S i)) (v : Fin n → EReal) :
    Ideal.div (∑ j, expw S j * v j) (∑ k, expw S k) = attend S v := by
  choose w hw0 hw using expw_pos h0 h
  have hL : (∑ k, expw S k) = ((∑ k, w k : ℝ) : EReal) := by simp only [hw]; exact sum_coe w
  have hpos : 0 < ∑ k, w k := Finset.sum_pos (fun i _ => hw0 i) ⟨⟨0, h0⟩, Finset.mem_univ _⟩
  rw [attend, hL, Ideal.div_coe hpos.ne', sum_mul_coe _ (by positivity)]
  refine Finset.sum_congr rfl fun j _ => ?_
  rw [Ideal.div_coe hpos.ne', mul_comm (expw S j), mul_assoc]

/-- The f32 pattern of 1024. -/
theorem ofBits_1024 : Ideal.ofBits .f32 1149239296#32 = ((1024 : ℝ) : EReal) := by
  simp [Ideal.ofBits, Ideal.ieee, -EReal.coe_mul]; norm_num

/-- The f32 pattern of 1/1024. -/
theorem ofBits_inv1024 : Ideal.ofBits .f32 981467136#32 = ((1 / 1024 : ℝ) : EReal) := by
  simp [Ideal.ofBits, Ideal.ieee, -EReal.coe_mul]; norm_num

/-- The f32 pattern of 1/8. -/
theorem ofBits_eighth : Ideal.ofBits .f32 0x3E000000#32 = ((1 / 8 : ℝ) : EReal) := by
  simp [Ideal.ofBits, Ideal.ieee, -EReal.coe_mul]; norm_num

/-- The f32 pattern of minus infinity. -/
theorem ofBits_neg_inf : Ideal.ofBits .f32 4286578688#32 = ⊥ := by
  simp [Ideal.ofBits, Ideal.ieee]

/-- The constant added to the mean square is a positive real. -/
theorem ofBits_eps : ∃ r : ℝ, 0 < r ∧ Ideal.ofBits .f32 897988541#32 = (r : EReal) := by
  simp [Ideal.ofBits, Ideal.ieee, -EReal.coe_mul]

/-- A product with 1/1024 is a quotient by 1024. -/
theorem mul_inv1024 (x : EReal) : x * Ideal.ofBits .f32 981467136#32 = Ideal.div x (Ideal.ofBits .f32 1149239296#32) := by
  rw [ofBits_1024, ofBits_inv1024, Ideal.div_coe (by norm_num)]

/-- One entry of a row scaled to unit mean square, times its gain. -/
def norm {n : ℕ} (h g : Fin n → EReal) (c : Fin n) : EReal :=
  h c * Ideal.rsqrt (Ideal.div (∑ x, h x * h x) (Ideal.ofBits .f32 1149239296#32) + Ideal.ofBits .f32 897988541#32) * g c

/-- A square is not negative. -/
theorem sq_nonneg (x : EReal) : 0 ≤ x * x := by
  induction x with
  | bot => simp
  | top => simp
  | coe r => rw [← EReal.coe_mul]; exact EReal.coe_nonneg.mpr (mul_self_nonneg r)

/-- The square of an infinity is plus infinity. -/
theorem sq_top {x : EReal} (h : ¬ IsReal x) : x * x = ⊤ := by
  induction x with
  | bot => simp
  | top => simp
  | coe r => exact absurd (isReal_coe r) h

/-- A normalised row is real wherever its gain is, WHATEVER the row: an infinite entry makes the sum of
    squares infinite and its reciprocal root zero. -/
theorem isReal_norm {n : ℕ} (h g : Fin n → EReal) (c : Fin n) (hg : IsReal (g c)) : IsReal (norm h g c) := by
  obtain ⟨e, he0, he⟩ := ofBits_eps
  unfold norm
  by_cases hr : ∀ i, IsReal (h i)
  · choose f hf using hr
    have hs : (∑ x, h x * h x) = ((∑ x, f x * f x : ℝ) : EReal) := by
      simp only [hf, ← EReal.coe_mul]; exact sum_coe _
    have h1 : 0 < (∑ x, f x * f x) * (1 / 1024) + e := by
      have : 0 ≤ ∑ x, f x * f x := Finset.sum_nonneg fun i _ => mul_self_nonneg _
      positivity
    rw [hs, ofBits_1024, Ideal.div_coe (by norm_num), he, ← EReal.coe_mul, ← EReal.coe_add, Ideal.rsqrt_coe,
      if_neg (not_lt.mpr h1.le), if_neg h1.ne', hf c]
    exact ((isReal_coe _).mul (isReal_coe _)).mul hg
  · push Not at hr
    obtain ⟨i, hi⟩ := hr
    have hs : (∑ x, h x * h x) = ⊤ := by
      have h1 : h i * h i ≤ ∑ x, h x * h x := Finset.single_le_sum (fun j _ => sq_nonneg (h j)) (Finset.mem_univ i)
      rw [sq_top hi] at h1
      exact top_le_iff.mp h1
    rw [hs, ofBits_1024, Ideal.div_coe (by norm_num), he, EReal.top_mul_coe_of_pos (by norm_num),
      EReal.top_add_coe, Ideal.rsqrt_top, mul_zero, zero_mul]
    exact ⟨0, by simp⟩

/-- `z` times the logistic function of `z`. -/
def silu (z : EReal) : EReal := z * Ideal.logistic z

theorem silu_eq (z : EReal) : silu z = z * Ideal.div 1 (1 + Ideal.exp (-z)) := rfl

end Cert.Reals
end
-- ==== Proof.Spec.lean ====
module
public import proofs.«01_k».proof.Proof.Reals
@[expose] public section

/-! # What the second half of the layer computes, as functions on coordinates

`b` is a sequence, `s` a position, `c` a column. -/

noncomputable section
namespace Cert.Spec
open Idealize.ShloMosaic Cert.Reals

/-- The argument arrays by coordinates: the residual stream, the attention branch, the memory queries and the gate
    of layer 0, the memories' keys and values (columns 0..255 and 256..511) of both layers, and the weights. -/
structure Args where
  x : Fin 8 → Fin 2048 → Fin 1024 → EReal
  mix : Fin 8 → Fin 2048 → Fin 512 → EReal
  q : Fin 8 → Fin 2048 → Fin 256 → EReal
  z : Fin 8 → Fin 2048 → Fin 768 → EReal
  kv : Fin 2 → Fin 8 → Fin 256 → Fin 512 → EReal
  wo0 : Fin 768 → Fin 1024 → EReal
  g : Fin 1024 → EReal
  w1 : Fin 1024 → Fin 4608 → EReal
  cw : Fin 3 → Fin 1024 → EReal
  wo1 : Fin 1280 → Fin 1024 → EReal
  fg : Fin 1024 → EReal

/-- Lane `l` of head `h` as one of the 256 columns. -/
def lane (h : Fin 4) (l : Fin 64) : Fin 256 := ⟨h.val * 64 + l.val, by omega⟩

/-- A key column among the 512 columns of keys and values. -/
def keyCol (c : Fin 256) : Fin 512 := ⟨c.val, by omega⟩

/-- A value column among the 512 columns of keys and values. -/
def valCol (c : Fin 256) : Fin 512 := ⟨256 + c.val, by omega⟩

/-- The head of a column. -/
def headOf (c : Fin 256) : Fin 4 := ⟨c.val / 64, by omega⟩

/-- The score of a query row on head `h` against memory `j`. -/
def score (q : Fin 256 → EReal) (kv : Fin 256 → Fin 512 → EReal) (h : Fin 4) (j : Fin 256) : EReal :=
  ∑ l : Fin 64, q (lane h l) * kv j (keyCol (lane h l))

/-- The memory attention of one row, from its scores by head. -/
def memOut (S : Fin 4 → Fin 256 → EReal) (kv : Fin 256 → Fin 512 → EReal) (c : Fin 256) : EReal :=
  attend (S (headOf c)) fun j => kv j (valCol c)

namespace Args
variable (A : Args)

/-- Layer 0's gated branches: the attention's 512 columns, then the memory attention's 256. -/
def y0 (b : Fin 8) (s : Fin 2048) (k : Fin 768) : EReal :=
  if h : k.val < 512 then A.mix b s ⟨k.val, h⟩ * silu (A.z b s k)
  else memOut (score (A.q b s) (A.kv 0 b)) (A.kv 0 b) ⟨k.val - 512, by omega⟩ * silu (A.z b s k)

/-- The residual stream after layer 0. -/
def h1 (b : Fin 8) (s : Fin 2048) (c : Fin 1024) : EReal := A.x b s c + ∑ k, A.y0 b s k * A.wo0 k c

/-- Layer 1's normalised input. -/
def hn (b : Fin 8) (s : Fin 2048) (c : Fin 1024) : EReal := norm (A.h1 b s) A.g c

/-- Layer 1's input projection. -/
def p (b : Fin 8) (s : Fin 2048) (k : Fin 4608) : EReal := ∑ c, A.hn b s c * A.w1 c k

/-- The product that the short convolution runs over. -/
def a (b : Fin 8) (s : Fin 2048) (c : Fin 1024) : EReal :=
  A.p b s ⟨1024 + c.val, by omega⟩ * A.p b s ⟨2048 + c.val, by omega⟩

/-- That product with eight rows of zeros put before the sequence: row `n` is position `n - 8`. -/
def aPad (b : Fin 8) (n : ℕ) (c : Fin 1024) : EReal :=
  if h : 8 ≤ n ∧ n - 8 < 2048 then A.a b ⟨n - 8, h.2⟩ c else 0

/-- The short causal convolution: three taps. -/
def conv (b : Fin 8) (s : Fin 2048) (c : Fin 1024) : EReal :=
  A.cw 0 c * A.aPad b (6 + s.val) c + A.cw 1 c * A.aPad b (7 + s.val) c + A.cw 2 c * A.aPad b (8 + s.val) c

/-- Layer 1's memory queries. -/
def q1 (b : Fin 8) (s : Fin 2048) (c : Fin 256) : EReal := A.p b s ⟨3072 + c.val, by omega⟩

/-- Layer 1's scores. -/
def score1 (b : Fin 8) (s : Fin 2048) (h : Fin 4) (j : Fin 256) : EReal :=
  score (A.q1 b s) (A.kv 1 b) h j * ((1 / 8 : ℝ) : EReal)

/-- Layer 1's gate. -/
def gate1 (b : Fin 8) (s : Fin 2048) (k : Fin 1280) : EReal := silu (A.p b s ⟨3328 + k.val, by omega⟩)

/-- Layer 1's gated branches: the convolution's 1024 columns, then the memory attention's 256. -/
def y1 (b : Fin 8) (s : Fin 2048) (k : Fin 1280) : EReal :=
  if h : k.val < 1024 then A.p b s ⟨k.val, by omega⟩ * A.conv b s ⟨k.val, h⟩ * A.gate1 b s k
  else memOut (A.score1 b s) (A.kv 1 b) ⟨k.val - 1024, by omega⟩ * A.gate1 b s k

/-- The residual stream after layer 1. -/
def h2 (b : Fin 8) (s : Fin 2048) (c : Fin 1024) : EReal := A.h1 b s c + ∑ k, A.y1 b s k * A.wo1 k c

/-- The result. -/
def out (b : Fin 8) (s : Fin 2048) (c : Fin 1024) : EReal := norm (A.h2 b s) A.fg c

/-- What is asked of the arguments: real memory queries of layer 0, real keys of both layers, a real gain of
    layer 1's norm and real weights of its memory queries. -/
structure Real : Prop where
  q : ∀ b s c, IsReal (A.q b s c)
  key : ∀ i b j c, IsReal (A.kv i b j (keyCol c))
  g : ∀ c, IsReal (A.g c)
  w1 : ∀ i (c : Fin 256), IsReal (A.w1 i ⟨3072 + c.val, by omega⟩)

variable {A}

/-- Scores of real queries against real keys are real. -/
theorem isReal_score {q : Fin 256 → EReal} {kv : Fin 256 → Fin 512 → EReal} (hq : ∀ c, IsReal (q c))
    (hk : ∀ j c, IsReal (kv j (keyCol c))) (h : Fin 4) (j : Fin 256) : IsReal (score q kv h j) :=
  IsReal.sum fun _ => (hq _).mul (hk _ _)

/-- Layer 1's memory queries are real. -/
theorem Real.q1 (hA : A.Real) (b : Fin 8) (s : Fin 2048) (c : Fin 256) : IsReal (A.q1 b s c) :=
  IsReal.sum fun i => (isReal_norm _ _ _ (hA.g i)).mul (hA.w1 i c)

/-- Layer 0's scores are real. -/
theorem Real.score0 (hA : A.Real) (b : Fin 8) (s : Fin 2048) (h : Fin 4) (j : Fin 256) :
    IsReal (score (A.q b s) (A.kv 0 b) h j) := isReal_score (hA.q b s) (hA.key 0 b) h j

/-- Layer 1's scores are real. -/
theorem Real.score1 (hA : A.Real) (b : Fin 8) (s : Fin 2048) (h : Fin 4) (j : Fin 256) :
    IsReal (A.score1 b s h j) := (isReal_score (hA.q1 b s) (hA.key 1 b) h j).mul (isReal_coe _)

/-- Scaling the queries' weights by 1/8 scales the queries. -/
theorem q1_scaled (b : Fin 8) (s : Fin 2048) (c : Fin 256) :
    (∑ i, A.hn b s i * (A.w1 i ⟨3072 + c.val, by omega⟩ * ((1 / 8 : ℝ) : EReal))) = A.q1 b s c * ((1 / 8 : ℝ) : EReal) := by
  rw [q1, p, sum_mul_coe _ (by norm_num)]
  exact Finset.sum_congr rfl fun i _ => (mul_assoc _ _ _).symm

/-- Scaling the queries by 1/8 scales the scores. -/
theorem score_scaled (q : Fin 256 → EReal) (kv : Fin 256 → Fin 512 → EReal) (h : Fin 4) (j : Fin 256) :
    score (fun c => q c * ((1 / 8 : ℝ) : EReal)) kv h j = score q kv h j * ((1 / 8 : ℝ) : EReal) := by
  rw [score, score, sum_mul_coe _ (by norm_num)]
  exact Finset.sum_congr rfl fun i _ => by rw [mul_right_comm]

end Args
end Cert.Spec
end
-- ==== Proof.Blocks.lean ====
module
public import proofs.«01_k».proof.Proof.Gen.TailIdeal.Value
public import proofs.«01_k».proof.Proof.Spec
public import Idealize.ShloMosaic.Lib.Pointwise
public import Idealize.ShloMosaic.Lib.Pipeline.ValueKit
@[expose] public section
set_option maxRecDepth 16384

/-! # The blocks that a grid point reads, entry by entry

Point `t` of the grid holds rows `512 * (t % 4) ..` of sequence `t / 4`. -/

noncomputable section
namespace Cert.TailIdeal
open Idealize.ShloMosaic Idealize.ShloMosaic.TcCoe Idealize.SL.Sem
open Cert.TailIdeal.Gen Cert.Reals Cert.Spec

variable (m : (ℓ : Loc nD τ sig) → Buf (Elt Ideal) ℓ)

/-- The kernel's arguments by coordinates. -/
def args (c : Dev nD) : Args where
  x b s k := (show FVec Ideal S8x2048x1024 .f32 from m ((c : Thread nD τ).loc main_arg0)) (ix3 b s k)
  mix b s k := (show FVec Ideal S8x2048x512 .f32 from m ((c : Thread nD τ).loc main_arg1)) (ix3 b s k)
  q b s k := (show FVec Ideal S8x2048x256 .bf16 from m ((c : Thread nD τ).loc main_arg2)) (ix3 b s k)
  z b s k := (show FVec Ideal S8x2048x768 .f32 from m ((c : Thread nD τ).loc main_arg3)) (ix3 b s k)
  kv i b j k := (show FVec Ideal S2x8x256x512 .bf16 from m ((c : Thread nD τ).loc main_arg4)) (ix4 i b j k)
  wo0 i k := (show FVec Ideal S1x768x1024 .f32 from m ((c : Thread nD τ).loc main_arg5)) (ix3 0 i k)
  g k := (show FVec Ideal S2x1024 .f32 from m ((c : Thread nD τ).loc main_arg6)) (ix2 1 k)
  w1 i k := (show FVec Ideal S1x1024x4608 .f32 from m ((c : Thread nD τ).loc main_arg7)) (ix3 0 i k)
  cw i k := (show FVec Ideal S1x3x1024 .f32 from m ((c : Thread nD τ).loc main_arg8)) (ix3 0 i k)
  wo1 i k := (show FVec Ideal S1x1280x1024 .f32 from m ((c : Thread nD τ).loc main_arg9)) (ix3 0 i k)
  fg k := (show FVec Ideal S1024 .f32 from m ((c : Thread nD τ).loc main_arg10)) (ix1 k)

/-- The sequence of a grid point. -/
def seqOf (t : Fin cfg0.N) : Fin 8 := ⟨t.val / 4, by have := lt_of_lt_of_eq t.isLt N_0; omega⟩

/-- The position of row `r` of a grid point's tile. -/
def posOf (t : Fin cfg0.N) (r : Fin 512) : Fin 2048 := ⟨512 * (t.val % 4) + r.val, by omega⟩

/-- The block indices of the windows over the grid. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![0, t.val / 4, 0, 0] ∧ win0_9.index t = ![1, t.val / 4, 0, 0]
    ∧ win0_5.index t = ![0, 0] ∧ win0_6.index t = ![0, 0] ∧ win0_7.index t = ![0, 0] ∧ win0_8.index t = ![0, 0]
    ∧ win0_10.index t = ![0, 0] ∧ win0_11.index t = ![0, 0] ∧ win0_12.index t = ![t.val / 4, t.val % 4, 0] :=
  (by decide +kernel : ∀ t : Fin grid0.N, _)

variable (c : Dev nD) (t : Fin cfg0.N)

theorem blk0_at (r : Fin 512) (k : Fin 1024) :
    (show Vec Ideal S1x512x1024 .f32 from iblk m c 0 t) (ix3 0 r k) = (args m c).x (seqOf t) (posOf t r) k := by
  unfold args seqOf posOf
  blk_point [iblk, V, idx t]

theorem blk1_at (r : Fin 512) (k : Fin 512) :
    (show Vec Ideal S1x512x512 .f32 from iblk m c 1 t) (ix3 0 r k) = (args m c).mix (seqOf t) (posOf t r) k := by
  unfold args seqOf posOf
  blk_point [iblk, V, idx t]

theorem blk2_at (r : Fin 512) (k : Fin 256) :
    (show Vec Ideal S1x512x256 .bf16 from iblk m c 2 t) (ix3 0 r k) = (args m c).q (seqOf t) (posOf t r) k := by
  unfold args seqOf posOf
  blk_point [iblk, V, idx t]

theorem blk3_at (r : Fin 512) (k : Fin 768) :
    (show Vec Ideal S1x512x768 .f32 from iblk m c 3 t) (ix3 0 r k) = (args m c).z (seqOf t) (posOf t r) k := by
  unfold args seqOf posOf
  blk_point [iblk, V, idx t]

theorem blk4_at (j : Fin 256) (k : Fin 512) :
    (show Vec Ideal S1x1x256x512 .bf16 from iblk m c 4 t) (ix4 0 0 j k) = (args m c).kv 0 (seqOf t) j k := by
  unfold args seqOf
  blk_point [iblk, V, idx t]

theorem blk9_at (j : Fin 256) (k : Fin 512) :
    (show Vec Ideal S1x1x256x512 .bf16 from iblk m c 9 t) (ix4 0 0 j k) = (args m c).kv 1 (seqOf t) j k := by
  unfold args seqOf
  blk_point [iblk, V, idx t]

theorem blk5_at (i : Fin 768) (k : Fin 1024) :
    (show Vec Ideal S768x1024 .bf16 from iblk m c 5 t) (ix2 i k) = (args m c).wo0 i k := by
  unfold args
  blk_simp [iblk]
  entry_read
  pointwise
  blk_ext [idx t]

theorem blk6_at (k : Fin 1024) :
    (show Vec Ideal S1x1024 .f32 from iblk m c 6 t) (ix2 0 k) = (args m c).g k := by
  unfold args
  blk_simp [iblk]
  entry_read
  pointwise
  blk_ext [idx t]

theorem blk8_at (i : Fin 3) (k : Fin 1024) :
    (show Vec Ideal S3x1024 .f32 from iblk m c 8 t) (ix2 i k) = (args m c).cw i k := by
  unfold args
  blk_simp [iblk]
  entry_read
  pointwise
  blk_ext [idx t]

theorem blk10_at (i : Fin 1280) (k : Fin 1024) :
    (show Vec Ideal S1280x1024 .bf16 from iblk m c 10 t) (ix2 i k) = (args m c).wo1 i k := by
  unfold args
  blk_simp [iblk]
  entry_read
  pointwise
  blk_ext [idx t]

theorem blk11_at (k : Fin 1024) :
    (show Vec Ideal S1x1024 .f32 from iblk m c 11 t) (ix2 0 k) = (args m c).fg k := by
  unfold args
  blk_simp [iblk]
  entry_read
  pointwise
  blk_ext [idx t]

/-- The weights' scale by columns: 1/8 on the columns of the memory queries, 1 elsewhere. -/
theorem scale_at : ∀ k : Fin 4608, lit0 k = if 3072 ≤ k.val ∧ k.val < 3328 then 0x3E000000#32 else 0x3F800000#32 := by
  decide +kernel

/-- The f32 pattern of 1. -/
theorem ofBits_one : Ideal.ofBits .f32 0x3F800000#32 = 1 := by
  simp [Ideal.ofBits, Ideal.ieee, -EReal.coe_mul]; norm_num

theorem blk7_at (i : Fin 1024) (k : Fin 4608) :
    (show Vec Ideal S1024x4608 .bf16 from iblk m c 7 t) (ix2 i k)
      = (args m c).w1 i k * (if 3072 ≤ k.val ∧ k.val < 3328 then ((1 / 8 : ℝ) : EReal) else 1) := by
  unfold args
  blk_simp [iblk]
  entry_read
  pointwise
  have e1 : ((((View.whole main_v4).slice (win0_7.rect t)).emb (ix2 i k) 1 : Fin 4608) : ℕ) = k.val := by blk_simp [idx t]
  have e : S4608.rowMajor (ix1 (((View.whole main_v4).slice (win0_7.rect t)).emb (ix2 i k) 1)) = k :=
    Fin.ext ((Shape.rowMajor_val_one _).trans e1)
  rw [e, scale_at, apply_ite (Ideal.ofBits .f32), ofBits_eighth, ofBits_one]
  refine congrArg₂ (· * ·) ?_ rfl
  blk_ext [idx t]

theorem w1_at (i : Fin 1024) (k : Fin 4608) (h : ¬ (3072 ≤ k.val ∧ k.val < 3328)) :
    (show Vec Ideal S1024x4608 .bf16 from iblk m c 7 t) (ix2 i k) = (args m c).w1 i k := by
  rw [blk7_at, if_neg h, mul_one]

theorem w1q_at (i : Fin 1024) (k : Fin 256) :
    (show Vec Ideal S1024x4608 .bf16 from iblk m c 7 t) (ix2 i ⟨3072 + k.val, by omega⟩)
      = (args m c).w1 i ⟨3072 + k.val, by omega⟩ * ((1 / 8 : ℝ) : EReal) := by
  rw [blk7_at, if_pos ⟨Nat.le_add_right _ _, by simp only []; omega⟩]

end Cert.TailIdeal
end
-- ==== Proof.Loads.lean ====
module
public import proofs.«01_k».proof.Proof.Blocks
@[expose] public section
set_option maxRecDepth 16384

/-! # What the kernel loads from its blocks and its scratch arrays, entry by entry

A scratch array is written in rectangles, listed most recent first. An entry in the head's rectangle reads the head;
another entry reads the rest of the list. -/

noncomputable section
namespace Cert.TailIdeal
open Idealize.ShloMosaic Idealize.ShloMosaic.TcCoe Idealize.SL.Sem
open Cert.TailIdeal.Gen Cert.Reals Cert.Spec

section Rects
variable {R C : ℕ} {φ : EltTy}

theorem idx_at {p o n k : ℕ} (h : ∀ a, (![p, o] : Fin 2 → ℕ) a + (![n, k] : Fin 2 → ℕ) a ≤ (⟨2, ![R, C]⟩ : Shape).size a)
    (i : Fin n) (j : Fin k) {i' : Fin R} {j' : Fin C} (hi : i'.val = p + i.val) (hj : j'.val = o + j.val) :
    (Rect.unit (s := ⟨2, ![R, C]⟩) ![p, o] ![n, k] h).idx (ix2 i j) = ix2 i' j' := by
  funext a
  refine Fin.ext ?_
  fin_cases a
  · exact (congrArg (p + ·) (Nat.one_mul _)).trans hi.symm
  · exact (congrArg (o + ·) (Nat.one_mul _)).trans hj.symm

/-- A load of a rectangle of an array. -/
theorem ld_at (x : Vec Ideal ⟨2, ![R, C]⟩ φ) {p o n k : ℕ} (h : ∀ a, (![p, o] : Fin 2 → ℕ) a + (![n, k] : Fin 2 → ℕ) a ≤ (⟨2, ![R, C]⟩ : Shape).size a)
    (i : Fin n) (j : Fin k) (i' : Fin R) (j' : Fin C) (hi : i'.val = p + i.val) (hj : j'.val = o + j.val) :
    View.ld (Val := Elt Ideal) x (Rect.unit ![p, o] ![n, k] h) (ix2 i j) = x (ix2 i' j') :=
  congrArg x (idx_at h i j hi hj)

variable {p o n k : ℕ} (h : ∀ a, (![p, o] : Fin 2 → ℕ) a + (![n, k] : Fin 2 → ℕ) a ≤ (⟨2, ![R, C]⟩ : Shape).size a)
  (w : (Rect.unit (s := ⟨2, ![R, C]⟩) ![p, o] ![n, k] h).shape.Idx → Elt Ideal φ) (L : List (View.Piece (Elt Ideal) ⟨2, ![R, C]⟩ φ))

theorem not_mem {i : Fin R} {j : Fin C} (hm : i.val < p ∨ p + n ≤ i.val ∨ j.val < o ∨ o + k ≤ j.val) :
    (ix2 i j : (⟨2, ![R, C]⟩ : Shape).Idx) ∉ (Rect.unit (s := ⟨2, ![R, C]⟩) ![p, o] ![n, k] h).set := by
  intro hs
  have hs := Rect.mem_set_unit.mp hs
  have h0 : p ≤ i.val ∧ i.val < p + n := hs 0
  have h1 : o ≤ j.val ∧ j.val < o + k := hs 1
  omega

theorem canon_hit (i : Fin n) (j : Fin k) {i' : Fin R} {j' : Fin C} (hi : i'.val = p + i.val) (hj : j'.val = o + j.val) :
    View.canon (⟨Rect.unit ![p, o] ![n, k] h, w⟩ :: L) (ix2 i' j') = w (ix2 i j) :=
  (congrArg _ (idx_at h i j hi hj).symm).trans (View.canon_cons_emb _ w L (ix2 i j))

theorem canon_miss {i : Fin R} {j : Fin C} (hm : i.val < p ∨ p + n ≤ i.val ∨ j.val < o ∨ o + k ≤ j.val) :
    View.canon (⟨Rect.unit ![p, o] ![n, k] h, w⟩ :: L) (ix2 i j) = View.canon L (ix2 i j) :=
  View.canon_cons_of_not_mem _ L (not_mem h hm)

variable {sig : RefSig} {κ : Kind} {sp : Space} (v : View sig κ sp ⟨2, ![R, C]⟩ φ)

/-- A load of a rectangle after covering writes. -/
theorem readCov_at (i : Fin n) (j : Fin k) (i' : Fin R) (j' : Fin C) (hi : i'.val = p + i.val) (hj : j'.val = o + j.val) :
    v.readCov (Val := Elt Ideal) L (Rect.unit (s := ⟨2, ![R, C]⟩) ![p, o] ![n, k] h).toLoadRect (ix2 i j) = View.canon L (ix2 i' j') := by
  rw [View.readCov_eq_canon']
  exact congrArg _ (idx_at h i j hi hj)

variable (f : v.ty.Contents (Elt Ideal))

theorem writes_hit (i : Fin n) (j : Fin k) {i' : Fin R} {j' : Fin C} (hi : i'.val = p + i.val) (hj : j'.val = o + j.val) :
    v.read (Elt Ideal) (v.writes (Elt Ideal) f (⟨Rect.unit ![p, o] ![n, k] h, w⟩ :: L)) (ix2 i' j') = w (ix2 i j) := by
  rw [← idx_at h i j hi hj]
  exact View.read_writes_cons_emb v f _ w L (ix2 i j)

theorem writes_miss {i : Fin R} {j : Fin C} (hm : i.val < p ∨ p + n ≤ i.val ∨ j.val < o ∨ o + k ≤ j.val) :
    v.read (Elt Ideal) (v.writes (Elt Ideal) f (⟨Rect.unit ![p, o] ![n, k] h, w⟩ :: L)) (ix2 i j)
      = v.read (Elt Ideal) (v.writes (Elt Ideal) f L) (ix2 i j) := by
  rw [View.writes_cons]
  exact View.read_slice_write_of_not_mem _ _ _ _ (by rw [Rect.map_emb_univ]; exact not_mem h hm)

end Rects

theorem ld3_at {φ : EltTy} {R C : ℕ} (x : Vec Ideal ⟨3, ![1, R, C]⟩ φ) {o k : ℕ} (h : ∀ a, (![0, 0, o] : Fin 3 → ℕ) a + (![1, R, k] : Fin 3 → ℕ) a ≤ (⟨3, ![1, R, C]⟩ : Shape).size a)
    (i : Fin R) (j : Fin k) (j' : Fin C) (hj : j'.val = o + j.val) :
    View.ld (Val := Elt Ideal) x (Rect.unit ![0, 0, o] ![1, R, k] h) (ix3 0 i j) = x (ix3 0 i j') := by
  refine congrArg x (funext fun a => Fin.ext ?_)
  fin_cases a
  · rfl
  · exact (Nat.zero_add _).trans (Nat.one_mul _)
  · exact (congrArg (o + ·) (Nat.one_mul _)).trans hj.symm

theorem ld4_at {φ : EltTy} {R C : ℕ} (x : Vec Ideal ⟨4, ![1, 1, R, C]⟩ φ) {o k : ℕ} (h : ∀ a, (![0, 0, 0, o] : Fin 4 → ℕ) a + (![1, 1, R, k] : Fin 4 → ℕ) a ≤ (⟨4, ![1, 1, R, C]⟩ : Shape).size a)
    (i : Fin R) (j : Fin k) (j' : Fin C) (hj : j'.val = o + j.val) :
    View.ld (Val := Elt Ideal) x (Rect.unit ![0, 0, 0, o] ![1, 1, R, k] h) (ix4 0 0 i j) = x (ix4 0 0 i j') := by
  refine congrArg x (funext fun a => Fin.ext ?_)
  fin_cases a
  · rfl
  · rfl
  · exact (Nat.zero_add _).trans (Nat.one_mul _)
  · exact (congrArg (o + ·) (Nat.one_mul _)).trans hj.symm

end Cert.TailIdeal
end
-- ==== Proof.Tile.lean ====
module
public import proofs.«01_k».proof.Proof.Gen.TailIdeal.Value
public import proofs.«01_k».proof.Proof.Spec
public import Idealize.ShloMosaic.Lib.Pointwise
public import Idealize.ShloMosaic.Lib.Pipeline.ValueKit
@[expose] public section
set_option maxRecDepth 16384

/-! # The kernel's stages on one tile of 512 rows

`s` gives the rows' positions; `cl` is a chunk of 256 columns, as a map into the 1024. Each stage is read at a row and a
column from what its operands are known to hold. -/

noncomputable section
namespace Cert.TailIdeal
open Idealize.ShloMosaic Idealize.ShloMosaic.TcCoe Idealize.SL.Sem
open Cert.TailIdeal.Gen Cert.Reals Cert.Spec

/-- The columns of layer 1's projection: the convolution's gates and inputs, and the output gates. -/
def colB (c : Fin 1024) : Fin 4608 := ⟨c.val, by omega⟩
def colC (c : Fin 1024) : Fin 4608 := ⟨1024 + c.val, by omega⟩
def colU (c : Fin 1024) : Fin 4608 := ⟨2048 + c.val, by omega⟩
def colQ (c : Fin 256) : Fin 4608 := ⟨3072 + c.val, by omega⟩
def colZ (c : Fin 1024) : Fin 4608 := ⟨3328 + c.val, by omega⟩

/-- The columns of layer 1's branches: the convolution's, then the memory attention's. -/
def colY (c : Fin 1024) : Fin 1280 := ⟨c.val, by omega⟩
def colM (c : Fin 256) : Fin 1280 := ⟨1024 + c.val, by omega⟩

variable {A : Args} {b : Fin 8} {s : Fin 512 → Fin 2048} {cl : Fin 256 → Fin 1024}

/-- Layer 0's gated branches. -/
theorem y0_at {M0 : FVec Ideal S512x256 .f32} {B3 : Vec Ideal S1x512x768 .f32} {B1 : Vec Ideal S1x512x512 .f32}
    (hM : ∀ r c, M0 (ix2 r c) = memOut (score (A.q b (s r)) (A.kv 0 b)) (A.kv 0 b) c)
    (h3 : ∀ r c, B3 (ix3 0 r c) = A.z b (s r) c) (h1 : ∀ r c, B1 (ix3 0 r c) = A.mix b (s r) c) (r : Fin 512) (k : Fin 768) :
    k0_pay15 M0 (k0_pay13 B3 B1) (k0_pay14 B3) (ix2 r k) = A.y0 b (s r) k := by
  pointwise [k0_pay15, k0_pay14, k0_pay13, k0_pay12]
  simp only [hM, h3, h1, Args.y0]
  by_cases h : k.val < 512
  · rw [dif_pos h, dif_pos h]; rfl
  · rw [dif_neg h, dif_neg h]
    have e : (⟨512 + (k.val - 512), by omega⟩ : Fin 768) = k := Fin.ext (by simp only []; omega)
    rw [e]; rfl

section Residual
variable {M0 : FVec Ideal S512x256 .f32} {P : FVec Ideal S512x512 .f32} {R : FVec Ideal S512x256 .f32}
  {X : Vec Ideal S1x512x256 .f32} {Wt : Vec Ideal S768x256 .bf16}
  (hy : ∀ r k, k0_pay15 M0 P R (ix2 r k) = A.y0 b (s r) k)
  (hX : ∀ r x, X (ix3 0 r x) = A.x b (s r) (cl x)) (hW : ∀ i x, Wt (ix2 i x) = A.wo0 i (cl x)) (r : Fin 512) (x : Fin 256)
include hy hX hW

/-! The residual stream after layer 0, by chunks. -/

theorem h1_first : k0_pay16 M0 P R X Wt (ix2 r x) = A.h1 b (s r) (cl x) := by
  pointwise [k0_pay16]
  simp only [hX, hy, hW]
  rfl

theorem h1_second : k0_pay17 M0 P R X Wt (ix2 r x) = A.h1 b (s r) (cl x) := by
  pointwise [k0_pay17]
  simp only [hX, hy, hW]
  rfl

theorem h1_third : k0_pay18 M0 P R X Wt (ix2 r x) = A.h1 b (s r) (cl x) := by
  pointwise [k0_pay18]
  simp only [hX, hy, hW]
  rfl

theorem h1_fourth : k0_pay19 (k0_pay15 M0 P R) X Wt (ix2 r x) = A.h1 b (s r) (cl x) := by
  pointwise [k0_pay19]
  simp only [hX, hy, hW]
  rfl

end Residual

/-- Layer 1's normalised input. -/
theorem hn_at {H : FVec Ideal S512x1024 .f32} {G : Vec Ideal S1x1024 .f32}
    (hH : ∀ r c, H (ix2 r c) = A.h1 b (s r) c) (hG : ∀ c, G (ix2 0 c) = A.g c) (r : Fin 512) (c : Fin 1024) :
    k0_pay20 H G (ix2 r c) = A.hn b (s r) c := by
  pointwise [k0_pay20]
  simp only [hH, hG]
  rfl

/-- Layer 1's memory queries, scaled. -/
theorem q_at {HB : FVec Ideal S512x1024 .bf16} {wq : Vec Ideal S1024x256 .bf16} (hHB : ∀ r c, HB (ix2 r c) = A.hn b (s r) c)
    (hq : ∀ i x, wq (ix2 i x) = A.w1 i (colQ x) * ((1 / 8 : ℝ) : EReal)) (r : Fin 512) (x : Fin 256) :
    k0_pay42 HB wq (ix2 r x) = A.q1 b (s r) x * ((1 / 8 : ℝ) : EReal) := by
  pointwise [k0_pay42]
  simp only [hHB, hq]
  exact Args.q1_scaled b (s r) x

section Conv
variable {HB : FVec Ideal S512x1024 .bf16} {wc wu : Vec Ideal S1024x256 .bf16}
  (hHB : ∀ r c, HB (ix2 r c) = A.hn b (s r) c) (hc : ∀ i x, wc (ix2 i x) = A.w1 i (colC (cl x)))
  (hu : ∀ i x, wu (ix2 i x) = A.w1 i (colU (cl x))) (r : Fin 512) (x : Fin 256)
include hHB hc hu

/-! The product that the convolution runs over, by chunks: as a value, and as stored. -/

theorem a_first' : k0_pay23 HB (k0_pay22 wc) (constant S512x256 FTy.f32 0#32) wu (ix2 r x) = A.a b (s r) (cl x) := by
  pointwise [k0_pay23, k0_pay22]
  simp only [hHB, hc, hu]
  rfl

theorem a_first : k0_pay24 HB (k0_pay22 wc) (constant S512x256 FTy.f32 0#32) wu (ix2 r x) = A.a b (s r) (cl x) := by
  pointwise [k0_pay24]
  exact a_first' hHB hc hu r x

theorem a_second' : k0_pay27 HB wc wu (ix2 r x) = A.a b (s r) (cl x) := by
  pointwise [k0_pay27]
  simp only [hHB, hc, hu]
  rfl

theorem a_second : k0_pay28 HB wc wu (ix2 r x) = A.a b (s r) (cl x) := by
  pointwise [k0_pay28]
  exact a_second' hHB hc hu r x

theorem a_third' : k0_pay32 HB wc wu (ix2 r x) = A.a b (s r) (cl x) := by
  pointwise [k0_pay32]
  simp only [hHB, hc, hu]
  rfl

theorem a_third : k0_pay33 HB wc wu (ix2 r x) = A.a b (s r) (cl x) := by
  pointwise [k0_pay33]
  exact a_third' hHB hc hu r x

theorem a_fourth' : k0_pay37 HB wc wu (ix2 r x) = A.a b (s r) (cl x) := by
  pointwise [k0_pay37]
  simp only [hHB, hc, hu]
  rfl

theorem a_fourth : k0_pay38 HB wc wu (ix2 r x) = A.a b (s r) (cl x) := by
  pointwise [k0_pay38]
  exact a_fourth' hHB hc hu r x

omit hHB hc hu in
theorem aPad_eight (t : Fin 2048) (c : Fin 1024) : A.aPad b (8 + t.val) c = A.a b t c := by
  have h : 8 ≤ 8 + t.val ∧ 8 + t.val - 8 < 2048 := by omega
  rw [Args.aPad, dif_pos h]
  congr 1
  exact Fin.ext (by simp only []; omega)

omit hHB hc hu in
/-- A convolution column of layer 1's gated branches. -/
theorem y1_conv (t : Fin 2048) (c : Fin 1024) :
    (∑ i, A.hn b t i * A.w1 i (colB c)) * (A.cw 0 c * A.aPad b (6 + t.val) c + A.cw 1 c * A.aPad b (7 + t.val) c + A.cw 2 c * A.a b t c)
        * ((∑ i, A.hn b t i * A.w1 i (colZ c)) * Ideal.logistic (∑ i, A.hn b t i * A.w1 i (colZ c)))
      = A.y1 b t (colY c) := by
  rw [Args.y1, dif_pos (show (colY c).val < 1024 from c.isLt), Args.conv]
  simp only [show (⟨(colY c).val, c.isLt⟩ : Fin 1024) = c from rfl, aPad_eight]
  rfl

variable {wb wz : Vec Ideal S1024x256 .bf16} {cw0 cw1 cw2 : Vec Ideal S1x256 .f32} {A6 A7 : Vec Ideal S512x256 .f32}
  (hb : ∀ i x, wb (ix2 i x) = A.w1 i (colB (cl x))) (hz : ∀ i x, wz (ix2 i x) = A.w1 i (colZ (cl x)))
  (h0 : ∀ x, cw0 (ix2 0 x) = A.cw 0 (cl x)) (h1 : ∀ x, cw1 (ix2 0 x) = A.cw 1 (cl x)) (h2 : ∀ x, cw2 (ix2 0 x) = A.cw 2 (cl x))
  (h6 : ∀ r x, A6 (ix2 r x) = A.aPad b (6 + (s r).val) (cl x)) (h7 : ∀ r x, A7 (ix2 r x) = A.aPad b (7 + (s r).val) (cl x))
include hb hz h0 h1 h2 h6 h7

/-! The convolution's columns of layer 1's gated branches, by chunks. -/

theorem y1_first : k0_pay26 (k0_pay25 HB (k0_pay22 wc) (constant S512x256 FTy.f32 0#32) wu cw0 A6 cw1 A7 cw2 wb wz) (ix2 r x)
    = A.y1 b (s r) (colY (cl x)) := by
  pointwise [k0_pay26, k0_pay25]
  simp only [a_first' hHB hc hu, hHB, hb, hz, h0, h1, h2, h6, h7]
  exact y1_conv (s r) (cl x)

theorem y1_second : k0_pay31 HB (k0_pay29 HB wc wu cw0 A6 cw1 A7 cw2 wb) (k0_pay30 wz) (constant S512x256 FTy.f32 0#32) (ix2 r x)
    = A.y1 b (s r) (colY (cl x)) := by
  pointwise [k0_pay31, k0_pay30, k0_pay29]
  simp only [a_second' hHB hc hu, hHB, hb, hz, h0, h1, h2, h6, h7]
  exact y1_conv (s r) (cl x)

theorem y1_third : k0_pay36 HB (k0_pay34 HB wc wu cw0 A6 cw1 A7 cw2) (k0_pay35 wb) wz (ix2 r x)
    = A.y1 b (s r) (colY (cl x)) := by
  pointwise [k0_pay36, k0_pay35, k0_pay34]
  simp only [a_third' hHB hc hu, hHB, hb, hz, h0, h1, h2, h6, h7]
  exact y1_conv (s r) (cl x)

theorem y1_fourth : k0_pay40 HB (k0_pay37 HB wc wu) (k0_pay39 cw0 A6 cw1 A7) cw2 wb wz (ix2 r x)
    = A.y1 b (s r) (colY (cl x)) := by
  have ha := a_fourth' hHB hc hu
  generalize k0_pay37 HB wc wu = P at *
  pointwise [k0_pay40, k0_pay39]
  simp only [ha, hHB, hb, hz, h0, h1, h2, h6, h7]
  exact y1_conv (s r) (cl x)

end Conv

section Result
variable {Y : Vec Ideal S512x1280 .bf16} {C0 C1 C2 C3 : Vec Ideal S512x256 .f32} {W0 W1 W2 W3 : Vec Ideal S1280x256 .bf16}
  (hY : ∀ r k, Y (ix2 r k) = A.y1 b (s r) k)

/-- Column `x` of chunk `j` among the 1024. -/
def chunk (j : Fin 4) (x : Fin 256) : Fin 1024 := ⟨256 * j.val + x.val, by omega⟩

/-- A chunk of the residual stream after layer 1. -/
theorem h2_eq {C : Vec Ideal S512x256 .f32} {Wt : Vec Ideal S1280x256 .bf16} (hY : ∀ r k, Y (ix2 r k) = A.y1 b (s r) k)
    (hC : ∀ r x, C (ix2 r x) = A.h1 b (s r) (cl x)) (hW : ∀ i x, Wt (ix2 i x) = A.wo1 i (cl x)) (r : Fin 512) (x : Fin 256) :
    C (ix2 r x) + ∑ k, Y (ix2 r k) * Wt (ix2 k x) = A.h2 b (s r) (cl x) := by
  simp only [hY, hC, hW]
  rfl

/-- A sum over 1024 columns by chunks. -/
theorem sum_chunks (f : Fin 1024 → EReal) :
    ∑ c, f c = (∑ x, f (chunk 0 x)) + (∑ x, f (chunk 1 x)) + (∑ x, f (chunk 2 x)) + ∑ x, f (chunk 3 x) := by
  rw [sum_split 768 256 rfl, sum_split 512 256 rfl, sum_split 256 256 rfl]
  refine congrArg₂ (· + ·) (congrArg₂ (· + ·) (congrArg₂ (· + ·) ?_ ?_) ?_) ?_ <;>
    exact Finset.sum_congr rfl fun x _ => congrArg f (Fin.ext (by simp [chunk]))

variable (hC0 : ∀ r x, C0 (ix2 r x) = A.h1 b (s r) (chunk 0 x)) (hC1 : ∀ r x, C1 (ix2 r x) = A.h1 b (s r) (chunk 1 x))
  (hC2 : ∀ r x, C2 (ix2 r x) = A.h1 b (s r) (chunk 2 x)) (hC3 : ∀ r x, C3 (ix2 r x) = A.h1 b (s r) (chunk 3 x))
  (hW0 : ∀ i x, W0 (ix2 i x) = A.wo1 i (chunk 0 x)) (hW1 : ∀ i x, W1 (ix2 i x) = A.wo1 i (chunk 1 x))
  (hW2 : ∀ i x, W2 (ix2 i x) = A.wo1 i (chunk 2 x)) (hW3 : ∀ i x, W3 (ix2 i x) = A.wo1 i (chunk 3 x))
include hY hC0 hC1 hC2 hC3 hW0 hW1 hW2 hW3

/-- The last norm of the tile, from the stored residual stream `S` and the four chunks' squares. -/
theorem out_at {S : Vec Ideal S1x512x1024 .f32} {G : Vec Ideal S1x1024 .f32} (hS : ∀ r c, S (ix3 0 r c) = A.h2 b (s r) c)
    (hG : ∀ c, G (ix2 0 c) = A.fg c) (r : Fin 512) (c : Fin 1024) :
    k0_pay2 (k0_pay59 Y (k0_pay54 Y C0 W0) C1 W1 C2 W2) (k0_pay62 Y C3 W3) S G (ix3 0 r c) = A.out b (s r) c := by
  pointwise [k0_pay2, k0_pay59, k0_pay54, k0_pay62, k0_pay61, k0_pay58, k0_pay56, k0_pay53]
  simp only [h2_eq hY hC0 hW0, h2_eq hY hC1 hW1, h2_eq hY hC2 hW2, h2_eq hY hC3 hW3, hS, hG, mul_inv1024,
    ← sum_chunks fun c => A.h2 b (s r) c * A.h2 b (s r) c]
  rfl

end Result

end Cert.TailIdeal
end
-- ==== Proof.Heads.lean ====
module
public import proofs.«01_k».proof.Proof.Gen.TailIdeal.Value
public import proofs.«01_k».proof.Proof.Spec
public import Idealize.ShloMosaic.Lib.Pipeline.ValueKit
@[expose] public section
set_option maxRecDepth 16384

/-! # The kernel's memory attention: two heads at a time, 128 lanes

The kernel multiplies the 128 lanes of a pair of heads by 1 on one head's lanes and 0 on the other's, so that one product
over 128 lanes gives one head's scores; the two heads' rows stand one after the other. -/

noncomputable section
namespace Cert.TailIdeal
open Idealize.ShloMosaic Idealize.ShloMosaic.TcCoe Idealize.SL.Sem
open Cert.TailIdeal.Gen Cert.Reals Cert.Spec

/-- A selection by "the lane is below 64". -/
theorem select_lane {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = BitVec.ofBool (decide (l.val < 64)) := by decide
  rw [h l]
  by_cases h' : l.val < 64 <;> simp [h', Scalar.select]

/-- Lane `l` of a pair of heads as one of the 256 columns. -/
def pairCol (i : Fin 2) (l : Fin 128) : Fin 256 := ⟨128 * i.val + l.val, by omega⟩

/-- The first head of a pair: the product over 128 lanes with the second half's lanes zeroed. -/
theorem pair_lo (q : Fin 256 → EReal) (kv : Fin 256 → Fin 512 → EReal) (i : Fin 2) (j : Fin 256) :
    (∑ l : Fin 128, q (pairCol i l) * (if l.val < 64 then 1 else 0) * kv j (keyCol (pairCol i l)))
      = score q kv ⟨2 * i.val, by omega⟩ j := by
  rw [sum_split 64 64 rfl, score]
  have h0 : ∀ l : Fin 64, ¬ (64 + l.val < 64) := fun l => by omega
  simp only [Fin.is_lt, if_true, h0, if_false, mul_one, mul_zero, zero_mul, Finset.sum_const_zero, add_zero]
  refine Finset.sum_congr rfl fun l _ => ?_
  have e : pairCol i ⟨l.val, by omega⟩ = lane ⟨2 * i.val, by omega⟩ l := Fin.ext (by simp [pairCol, lane]; omega)
  rw [e]

/-- The second head of a pair. -/
theorem pair_hi (q : Fin 256 → EReal) (kv : Fin 256 → Fin 512 → EReal) (i : Fin 2) (j : Fin 256) :
    (∑ l : Fin 128, q (pairCol i l) * (if l.val < 64 then 0 else 1) * kv j (keyCol (pairCol i l)))
      = score q kv ⟨2 * i.val + 1, by omega⟩ j := by
  rw [sum_split 64 64 rfl, score]
  have h0 : ∀ l : Fin 64, ¬ (64 + l.val < 64) := fun l => by omega
  simp only [Fin.is_lt, if_true, h0, if_false, mul_one, mul_zero, zero_mul, Finset.sum_const_zero, zero_add]
  refine Finset.sum_congr rfl fun l _ => ?_
  have e : pairCol i ⟨64 + l.val, by omega⟩ = lane ⟨2 * i.val + 1, by omega⟩ l := Fin.ext (by simp [pairCol, lane]; omega)
  rw [e]

/-- The pair's output lanes: the first head's attention on the first 64, the second's on the others. -/
theorem pair_out {S : Fin 4 → Fin 256 → EReal} (hS : ∀ h j, IsReal (S h j)) (kv : Fin 256 → Fin 512 → EReal) (i : Fin 2) (l : Fin 128) :
    (if l.val < 64 then
      Ideal.div (∑ j, expw (S ⟨2 * i.val, by omega⟩) j * kv j (valCol (pairCol i l))) (∑ j, expw (S ⟨2 * i.val, by omega⟩) j)
    else
      Ideal.div (∑ j, expw (S ⟨2 * i.val + 1, by omega⟩) j * kv j (valCol (pairCol i l))) (∑ j, expw (S ⟨2 * i.val + 1, by omega⟩) j))
      = memOut S kv (pairCol i l) := by
  have key : ∀ h : Fin 4, headOf (pairCol i l) = h →
      Ideal.div (∑ j, expw (S h) j * kv j (valCol (pairCol i l))) (∑ j, expw (S h) j) = memOut S kv (pairCol i l) := by
    intro h e
    rw [memOut, e]
    exact div_sum_eq_attend (by decide) (hS h) _
  by_cases h : l.val < 64
  · rw [if_pos h]; exact key _ (Fin.ext (by simp [headOf, pairCol]; omega))
  · rw [if_neg h]; exact key _ (Fin.ext (by simp [headOf, pairCol]; omega))

/-- The kernel's maximum over a row, from minus infinity. -/
theorem fold_max (S : Fin 256 → EReal) : Finset.fold max (Ideal.ofBits .f32 4286578688#32) S Finset.univ = rowMax S := by
  rw [ofBits_neg_inf]; rfl

/-- The masks of the two heads of a pair. -/
theorem pay4_at (l : Fin 128) : k0_pay4 (F := Ideal) (ix2 0 l) = if l.val < 64 then 1 else 0 := by
  pointwise [k0_pay4]; exact select_lane l _ _
theorem pay5_at (l : Fin 128) : k0_pay5 (F := Ideal) (ix2 0 l) = if l.val < 64 then 0 else 1 := by
  pointwise [k0_pay5]; exact select_lane l _ _
theorem pay43_at (l : Fin 128) : k0_pay43 (F := Ideal) (ix2 0 l) = if l.val < 64 then 1 else 0 := by
  pointwise [k0_pay43]; exact select_lane l _ _
theorem pay47_at (l : Fin 128) : k0_pay47 (F := Ideal) k0_pay44 k0_pay45 k0_pay46 (ix2 0 l) = if l.val < 64 then 0 else 1 := by
  pointwise [k0_pay47, k0_pay44, k0_pay45, k0_pay46]; exact select_lane l _ _
theorem pay6_at {α : Type} (r : Fin 512) (l : Fin 128) (x y : α) : Scalar.select (k0_pay6 (ix2 r l)) x y = if l.val < 64 then x else y := by
  have : k0_pay6 (ix2 r l) = IntOp.cmpi CmpIPredicate.slt (BitVec.ofNat 32 l.val) 64#32 := by pointwise [k0_pay6]
  rw [this]; exact select_lane l _ _
theorem pay48_at {α : Type} (r : Fin 512) (l : Fin 128) (x y : α) : Scalar.select (k0_pay48 (ix2 r l)) x y = if l.val < 64 then x else y := by
  have : k0_pay48 (ix2 r l) = IntOp.cmpi CmpIPredicate.slt (BitVec.ofNat 32 l.val) 64#32 := by pointwise [k0_pay48]
  rw [this]; exact select_lane l _ _

variable {Q : Fin 512 → Fin 256 → EReal} {kv : Fin 256 → Fin 512 → EReal}

/-- Layer 0's exponentials of the first pair: its first head's rows, then its second's. -/
theorem pay7_at {v0 : Vec Ideal S1x512x256 .bf16} {K : Vec Ideal S1x1x256x128 .bf16}
    (hq : ∀ r c, v0 (ix3 0 r c) = Q r c) (hK : ∀ j l, K (ix4 0 0 j l) = kv j (keyCol (pairCol 0 l))) (r : Fin 512) (j : Fin 256) :
    k0_pay7 v0 K (ix2 ⟨r.val, by omega⟩ j) = expw (score (Q r) kv 0) j
      ∧ k0_pay7 v0 K (ix2 ⟨512 + r.val, by omega⟩ j) = expw (score (Q r) kv 1) j := by
  have h3 : ∀ c, k0_pay3 v0 (ix2 r c) = Q r c := fun c => by pointwise [k0_pay3]; exact hq r c
  have hlo : ∀ j, (∑ l : Fin 128, k0_pay3 v0 (ix2 r ⟨l.val, by omega⟩) * k0_pay4 (F := Ideal) (ix2 0 l) * K (ix4 0 0 j l)) = score (Q r) kv 0 j := fun j => by
    refine Eq.trans (Finset.sum_congr rfl fun l _ => ?_) (pair_lo (Q r) kv 0 j)
    rw [h3, pay4_at, hK, show (⟨l.val, by omega⟩ : Fin 256) = pairCol 0 l from Fin.ext (by simp [pairCol])]
  have hhi : ∀ j, (∑ l : Fin 128, k0_pay3 v0 (ix2 r ⟨l.val, by omega⟩) * k0_pay5 (F := Ideal) (ix2 0 l) * K (ix4 0 0 j l)) = score (Q r) kv 1 j := fun j => by
    refine Eq.trans (Finset.sum_congr rfl fun l _ => ?_) (pair_hi (Q r) kv 0 j)
    rw [h3, pay5_at, hK, show (⟨l.val, by omega⟩ : Fin 256) = pairCol 0 l from Fin.ext (by simp [pairCol])]
  constructor
  · pointwise [k0_pay7]
    simp only [r.isLt, dif_pos, hlo, fold_max]
    rfl
  · have hn : ¬ (512 + r.val < 512) := by omega
    have e : 512 + r.val - 512 = r.val := by omega
    pointwise [k0_pay7]
    simp only [hn, dif_neg, not_false_eq_true, e, hhi, fold_max]
    rfl

/-- Layer 0's memory attention. -/
theorem mem0_at {v0 : Vec Ideal S1x512x256 .bf16} {K0 V0 K1 V1 : Vec Ideal S1x1x256x128 .bf16}
    (hq : ∀ r c, v0 (ix3 0 r c) = Q r c) (hK0 : ∀ j l, K0 (ix4 0 0 j l) = kv j (keyCol (pairCol 0 l)))
    (hV0 : ∀ j l, V0 (ix4 0 0 j l) = kv j (valCol (pairCol 0 l))) (hK1 : ∀ j l, K1 (ix4 0 0 j l) = kv j (keyCol (pairCol 1 l)))
    (hV1 : ∀ j l, V1 (ix4 0 0 j l) = kv j (valCol (pairCol 1 l))) (hS : ∀ r h j, IsReal (score (Q r) kv h j)) (r : Fin 512) (c : Fin 256) :
    k0_pay11 (k0_pay3 v0) k0_pay4 k0_pay5 k0_pay6 (k0_pay8 v0 K0) (k0_pay9 V0) (k0_pay10 v0 K0) K1 V1 (ix2 r c)
      = memOut (score (Q r) kv) kv c := by
  have h3 : ∀ c, k0_pay3 v0 (ix2 r c) = Q r c := fun c => by pointwise [k0_pay3]; exact hq r c
  have h8 : ∀ R : Fin 1024, k0_pay8 v0 K0 (ix2 R 0) = ∑ j, k0_pay7 v0 K0 (ix2 R j) := fun R => by pointwise [k0_pay8]
  have h9 : ∀ j l, k0_pay9 V0 (ix2 j l) = kv j (valCol (pairCol 0 l)) := fun j l => by pointwise [k0_pay9]; exact hV0 j l
  have h10 : ∀ (R : Fin 1024) (j : Fin 256), k0_pay10 v0 K0 (ix2 R j) = k0_pay7 v0 K0 (ix2 R j) := fun R j => by pointwise [k0_pay10]
  have hlo : ∀ j, (∑ l : Fin 128, k0_pay3 v0 (ix2 r ⟨128 + l.val, by omega⟩) * k0_pay4 (F := Ideal) (ix2 0 l) * K1 (ix4 0 0 j l)) = score (Q r) kv 2 j := fun j => by
    refine Eq.trans (Finset.sum_congr rfl fun l _ => ?_) (pair_lo (Q r) kv 1 j)
    rw [h3, pay4_at, hK1, show (⟨128 + l.val, by omega⟩ : Fin 256) = pairCol 1 l from Fin.ext (by simp [pairCol])]
  have hhi : ∀ j, (∑ l : Fin 128, k0_pay3 v0 (ix2 r ⟨128 + l.val, by omega⟩) * k0_pay5 (F := Ideal) (ix2 0 l) * K1 (ix4 0 0 j l)) = score (Q r) kv 3 j := fun j => by
    refine Eq.trans (Finset.sum_congr rfl fun l _ => ?_) (pair_hi (Q r) kv 1 j)
    rw [h3, pay5_at, hK1, show (⟨128 + l.val, by omega⟩ : Fin 256) = pairCol 1 l from Fin.ext (by simp [pairCol])]
  have h7l : ∀ j, k0_pay7 v0 K0 (ix2 ⟨r.val, by omega⟩ j) = expw (score (Q r) kv 0) j := fun j => (pay7_at hq hK0 r j).1
  have h7h : ∀ j, k0_pay7 v0 K0 (ix2 ⟨512 + r.val, by omega⟩ j) = expw (score (Q r) kv 1) j := fun j => (pay7_at hq hK0 r j).2
  generalize k0_pay7 v0 K0 = P at *
  generalize k0_pay8 v0 K0 = P8 at *
  generalize k0_pay9 V0 = P9 at *
  generalize k0_pay10 v0 K0 = P10 at *
  generalize k0_pay3 v0 = P3 at *
  pointwise [k0_pay11]
  simp only [pay6_at, h8, h9, h10, h7l, h7h, hlo, hhi, fold_max]
  by_cases hc : c.val < 128
  · rw [dif_pos hc]
    have e : c = pairCol 0 ⟨c.val, hc⟩ := Fin.ext (by simp [pairCol])
    exact (pair_out (hS r) kv 0 ⟨c.val, hc⟩).trans (by rw [← e])
  · rw [dif_neg hc]
    have e : c = pairCol 1 ⟨c.val - 128, by omega⟩ := Fin.ext (by simp [pairCol]; omega)
    simp only [hV1]
    exact (pair_out (hS r) kv 1 ⟨c.val - 128, by omega⟩).trans (by rw [← e])

/-- Layer 1's memory attention and its gate: the scores from queries `Qv`, the gate from the product of `HB` with `Wz`. -/
theorem mem1_at {Qv : FVec Ideal S512x256 .bf16} {K0 V0 K1 V1 : Vec Ideal S1x1x256x128 .bf16}
    (HB : FVec Ideal S512x1024 .bf16) (Wz : Vec Ideal S1024x256 .bf16)
    (hq : ∀ r c, Qv (ix2 r c) = Q r c) (hK0 : ∀ j l, K0 (ix4 0 0 j l) = kv j (keyCol (pairCol 0 l)))
    (hV0 : ∀ j l, V0 (ix4 0 0 j l) = kv j (valCol (pairCol 0 l))) (hK1 : ∀ j l, K1 (ix4 0 0 j l) = kv j (keyCol (pairCol 1 l)))
    (hV1 : ∀ j l, V1 (ix4 0 0 j l) = kv j (valCol (pairCol 1 l))) (hS : ∀ r h j, IsReal (score (Q r) kv h j)) (r : Fin 512) (c : Fin 256) :
    k0_pay52 HB k0_pay48 (k0_pay49 Qv k0_pay43 k0_pay44 k0_pay45 k0_pay46 K0 V0) (k0_pay50 Qv k0_pay43 k0_pay44 k0_pay45 k0_pay46 K1)
        (k0_pay51 Qv k0_pay43 k0_pay44 k0_pay45 k0_pay46 K1) V1 Wz (ix2 r c)
      = memOut (score (Q r) kv) kv c * silu (∑ i, HB (ix2 r i) * Wz (ix2 i c)) := by
  have hlo : ∀ j, (∑ l : Fin 128, Qv (ix2 r ⟨l.val, by omega⟩) * k0_pay43 (F := Ideal) (ix2 0 l) * K0 (ix4 0 0 j l)) = score (Q r) kv 0 j := fun j => by
    refine Eq.trans (Finset.sum_congr rfl fun l _ => ?_) (pair_lo (Q r) kv 0 j)
    rw [hq, pay43_at, hK0, show (⟨l.val, by omega⟩ : Fin 256) = pairCol 0 l from Fin.ext (by simp [pairCol])]
  have hhi : ∀ j, (∑ l : Fin 128, Qv (ix2 r ⟨l.val, by omega⟩) * k0_pay47 (F := Ideal) k0_pay44 k0_pay45 k0_pay46 (ix2 0 l) * K0 (ix4 0 0 j l)) = score (Q r) kv 1 j := fun j => by
    refine Eq.trans (Finset.sum_congr rfl fun l _ => ?_) (pair_hi (Q r) kv 0 j)
    rw [hq, pay47_at, hK0, show (⟨l.val, by omega⟩ : Fin 256) = pairCol 0 l from Fin.ext (by simp [pairCol])]
  have hlo1 : ∀ j, (∑ l : Fin 128, Qv (ix2 r ⟨128 + l.val, by omega⟩) * k0_pay43 (F := Ideal) (ix2 0 l) * K1 (ix4 0 0 j l)) = score (Q r) kv 2 j := fun j => by
    refine Eq.trans (Finset.sum_congr rfl fun l _ => ?_) (pair_lo (Q r) kv 1 j)
    rw [hq, pay43_at, hK1, show (⟨128 + l.val, by omega⟩ : Fin 256) = pairCol 1 l from Fin.ext (by simp [pairCol])]
  have hhi1 : ∀ j, (∑ l : Fin 128, Qv (ix2 r ⟨128 + l.val, by omega⟩) * k0_pay47 (F := Ideal) k0_pay44 k0_pay45 k0_pay46 (ix2 0 l) * K1 (ix4 0 0 j l)) = score (Q r) kv 3 j := fun j => by
    refine Eq.trans (Finset.sum_congr rfl fun l _ => ?_) (pair_hi (Q r) kv 1 j)
    rw [hq, pay47_at, hK1, show (⟨128 + l.val, by omega⟩ : Fin 256) = pairCol 1 l from Fin.ext (by simp [pairCol])]
  have h49 : ∀ l : Fin 128, k0_pay49 Qv k0_pay43 k0_pay44 k0_pay45 k0_pay46 K0 V0 (ix2 r l) = memOut (score (Q r) kv) kv (pairCol 0 l) := fun l => by
    pointwise [k0_pay49]
    simp only [pay48_at, hlo, hhi, fold_max, hV0]
    exact pair_out (hS r) kv 0 l
  have h50l : ∀ j, k0_pay50 Qv k0_pay43 k0_pay44 k0_pay45 k0_pay46 K1 (ix2 ⟨r.val, by omega⟩ j) = score (Q r) kv 2 j := fun j => by
    pointwise [k0_pay50]
    exact hlo1 j
  have h50h : ∀ j, k0_pay50 Qv k0_pay43 k0_pay44 k0_pay45 k0_pay46 K1 (ix2 ⟨512 + r.val, by omega⟩ j) = score (Q r) kv 3 j := fun j => by
    have e : 512 + r.val - 512 = r.val := by omega
    pointwise [k0_pay50]
    simpa only [e] using hhi1 j
  have h51 : ∀ R : Fin 1024, k0_pay51 Qv k0_pay43 k0_pay44 k0_pay45 k0_pay46 K1 (ix2 R 0) = rowMax fun j => k0_pay50 Qv k0_pay43 k0_pay44 k0_pay45 k0_pay46 K1 (ix2 R j) := fun R => by
    pointwise [k0_pay51]
    exact fold_max _
  generalize k0_pay51 Qv k0_pay43 k0_pay44 k0_pay45 k0_pay46 K1 = P51 at *
  generalize k0_pay50 Qv k0_pay43 k0_pay44 k0_pay45 k0_pay46 K1 = P50 at *
  generalize k0_pay49 Qv k0_pay43 k0_pay44 k0_pay45 k0_pay46 K0 V0 = P49 at *
  pointwise [k0_pay52]
  simp only [pay48_at, h49, h51, h50l, h50h]
  refine congrArg₂ (· * ·) ?_ rfl
  by_cases hc : c.val < 128
  · rw [dif_pos hc, show pairCol 0 ⟨c.val, hc⟩ = c from Fin.ext (by simp [pairCol])]
  · rw [dif_neg hc]
    have e : c = pairCol 1 ⟨c.val - 128, by omega⟩ := Fin.ext (by simp [pairCol]; omega)
    simp only [hV1]
    exact (pair_out (hS r) kv 1 ⟨c.val - 128, by omega⟩).trans (by rw [← e])

end Cert.TailIdeal
end
-- ==== Proof.Pieces.lean ====
module
public import proofs.«01_k».proof.Proof.Loads
public import proofs.«01_k».proof.Proof.Tile
public import proofs.«01_k».proof.Proof.Heads
@[expose] public section
set_option maxRecDepth 16384

/-! # The tile's scratch arrays, put together from their chunks -/

noncomputable section
namespace Cert.TailIdeal
open Idealize.ShloMosaic Idealize.ShloMosaic.TcCoe Idealize.SL.Sem
open Cert.TailIdeal.Gen Cert.Reals Cert.Spec

/-- Four chunks of 256 columns make 1024. -/
theorem chunks4 {P0 P1 P2 P3 : Vec Ideal S512x256 .f32} {f : Fin 512 → Fin 1024 → EReal}
    (h0 : ∀ r x, P0 (ix2 r x) = f r (chunk 0 x)) (h1 : ∀ r x, P1 (ix2 r x) = f r (chunk 1 x))
    (h2 : ∀ r x, P2 (ix2 r x) = f r (chunk 2 x)) (h3 : ∀ r x, P3 (ix2 r x) = f r (chunk 3 x)) (r : Fin 512) (c : Fin 1024) :
    View.canon (Val := Elt Ideal) (s := S512x1024) (e := .f32) [⟨Rect.unit ![0, 768] ![512, 256] inb_S512x1024_S512x256_0_768, P3⟩,
      ⟨Rect.unit ![0, 512] ![512, 256] inb_S512x1024_S512x256_0_512, P2⟩,
      ⟨Rect.unit ![0, 256] ![512, 256] inb_S512x1024_S512x256_0_256, P1⟩,
      ⟨Rect.unit ![0, 0] ![512, 256] inb_S512x1024_S512x256_0_0, P0⟩] (ix2 r c) = f r c := by
  by_cases c3 : 768 ≤ c.val
  · refine (canon_hit _ _ _ r ⟨c.val - 768, by omega⟩ (by simp) (by simp only []; omega)).trans ((h3 _ _).trans (congrArg (f r) (Fin.ext ?_)))
    simp [chunk]; omega
  refine (canon_miss _ _ _ (by omega)).trans ?_
  by_cases c2 : 512 ≤ c.val
  · refine (canon_hit _ _ _ r ⟨c.val - 512, by omega⟩ (by simp) (by simp only []; omega)).trans ((h2 _ _).trans (congrArg (f r) (Fin.ext ?_)))
    simp [chunk]; omega
  refine (canon_miss _ _ _ (by omega)).trans ?_
  by_cases c1 : 256 ≤ c.val
  · refine (canon_hit _ _ _ r ⟨c.val - 256, by omega⟩ (by simp) (by simp only []; omega)).trans ((h1 _ _).trans (congrArg (f r) (Fin.ext ?_)))
    simp [chunk]; omega
  refine (canon_miss _ _ _ (by omega)).trans ?_
  refine (canon_hit _ _ _ r ⟨c.val, by omega⟩ (by simp) (by simp only []; omega)).trans ((h0 _ _).trans (congrArg (f r) (Fin.ext ?_)))
  simp [chunk]

/-- Four chunks of 256 columns and one more make 1280. -/
theorem chunks5 {P0 P1 P2 P3 P4 : Vec Ideal S512x256 .bf16} {f : Fin 512 → Fin 1280 → EReal}
    (h0 : ∀ r x, P0 (ix2 r x) = f r (colY (chunk 0 x))) (h1 : ∀ r x, P1 (ix2 r x) = f r (colY (chunk 1 x)))
    (h2 : ∀ r x, P2 (ix2 r x) = f r (colY (chunk 2 x))) (h3 : ∀ r x, P3 (ix2 r x) = f r (colY (chunk 3 x)))
    (h4 : ∀ r (x : Fin 256), P4 (ix2 r x) = f r (colM x)) (r : Fin 512) (c : Fin 1280) :
    View.canon (Val := Elt Ideal) (s := S512x1280) (e := .bf16) [⟨Rect.unit ![0, 1024] ![512, 256] inb_S512x1280_S512x256_0_1024, P4⟩,
      ⟨Rect.unit ![0, 768] ![512, 256] inb_S512x1280_S512x256_0_768, P3⟩,
      ⟨Rect.unit ![0, 512] ![512, 256] inb_S512x1280_S512x256_0_512, P2⟩,
      ⟨Rect.unit ![0, 256] ![512, 256] inb_S512x1280_S512x256_0_256, P1⟩,
      ⟨Rect.unit ![0, 0] ![512, 256] inb_S512x1280_S512x256_0_0, P0⟩] (ix2 r c) = f r c := by
  by_cases c4 : 1024 ≤ c.val
  · refine (canon_hit _ _ _ r ⟨c.val - 1024, by omega⟩ (by simp) (by simp only []; omega)).trans ((h4 _ _).trans (congrArg (f r) (Fin.ext ?_)))
    simp [colM]; omega
  refine (canon_miss _ _ _ (by omega)).trans ?_
  by_cases c3 : 768 ≤ c.val
  · refine (canon_hit _ _ _ r ⟨c.val - 768, by omega⟩ (by simp) (by simp only []; omega)).trans ((h3 _ _).trans (congrArg (f r) (Fin.ext ?_)))
    simp [chunk, colY]; omega
  refine (canon_miss _ _ _ (by omega)).trans ?_
  by_cases c2 : 512 ≤ c.val
  · refine (canon_hit _ _ _ r ⟨c.val - 512, by omega⟩ (by simp) (by simp only []; omega)).trans ((h2 _ _).trans (congrArg (f r) (Fin.ext ?_)))
    simp [chunk, colY]; omega
  refine (canon_miss _ _ _ (by omega)).trans ?_
  by_cases c1 : 256 ≤ c.val
  · refine (canon_hit _ _ _ r ⟨c.val - 256, by omega⟩ (by simp) (by simp only []; omega)).trans ((h1 _ _).trans (congrArg (f r) (Fin.ext ?_)))
    simp [chunk, colY]; omega
  refine (canon_miss _ _ _ (by omega)).trans ?_
  refine (canon_hit _ _ _ r ⟨c.val, by omega⟩ (by simp) (by simp only []; omega)).trans ((h0 _ _).trans (congrArg (f r) (Fin.ext ?_)))
  simp [chunk, colY]

theorem chunk3 {P : Vec Ideal S1x512x256 .f32} {f : Fin 512 → Fin 1024 → EReal} {j : Fin 4}
    (h : ∀ r x, P (ix3 0 r x) = f r (chunk j x)) (x : S1x512x256.Idx) {r : Fin 512} {c : Fin 1024} (e1 : r.val = (x 1).val)
    (e2 : c.val = 256 * j.val + (x 2).val) : P x = f r c := by
  obtain rfl : r = x 1 := Fin.ext e1
  obtain rfl : c = chunk j (x 2) := Fin.ext e2
  refine Eq.trans (congrArg P (funext fun a => ?_)) (h (x 1) (x 2))
  fin_cases a
  · exact Subsingleton.elim (α := Fin 1) _ _
  · rfl
  · rfl

/-- Four chunks of 256 columns of a block make its 1024. -/
theorem stage4 {sp : Space} {κ : Kind} (v : View sig κ sp S1x512x1024 .f32) {P0 P1 P2 P3 : Vec Ideal S1x512x256 .f32} {f : Fin 512 → Fin 1024 → EReal}
    (h0 : ∀ r x, P0 (ix3 0 r x) = f r (chunk 0 x)) (h1 : ∀ r x, P1 (ix3 0 r x) = f r (chunk 1 x))
    (h2 : ∀ r x, P2 (ix3 0 r x) = f r (chunk 2 x)) (h3 : ∀ r x, P3 (ix3 0 r x) = f r (chunk 3 x)) (r : Fin 512) (c : Fin 1024) :
    v.readCov (Val := Elt Ideal) [⟨Rect.unit ![0, 0, 768] ![1, 512, 256] inb_S1x512x1024_S1x512x256_0_0_768, P3⟩,
      ⟨Rect.unit ![0, 0, 512] ![1, 512, 256] inb_S1x512x1024_S1x512x256_0_0_512, P2⟩,
      ⟨Rect.unit ![0, 0, 256] ![1, 512, 256] inb_S1x512x1024_S1x512x256_0_0_256, P1⟩,
      ⟨Rect.unit ![0, 0, 0] ![1, 512, 256] inb_S1x512x1024_S1x512x256_0_0_0, P0⟩]
      (Rect.unit (s := S1x512x1024) ![0, 0, 0] ![1, 512, 1024] inb_S1x512x1024_S1x512x1024_0_0_0).toLoadRect (ix3 0 r c) = f r c := by
  rw [View.readCov_eq_canon']
  have e : (Rect.unit (s := S1x512x1024) ![0, 0, 0] ![1, 512, 1024] inb_S1x512x1024_S1x512x1024_0_0_0).idx (ix3 0 r c) = ix3 0 r c := by
    funext a
    refine Fin.ext ?_
    fin_cases a
    · rfl
    · exact (Nat.zero_add _).trans (Nat.one_mul _)
    · exact (Nat.zero_add _).trans (Nat.one_mul _)
  simp only [e]
  canon_tiles x hx
  · exact chunk3 h3 x hx1 hx2
  · exact chunk3 h2 x hx1 hx2
  · exact chunk3 h1 x hx1 hx2
  · exact chunk3 h0 x hx1 (hx2.trans (Nat.zero_add _).symm)

end Cert.TailIdeal
end
-- ==== Proof.Stages.lean ====
module
public import proofs.«01_k».proof.Proof.Pieces
@[expose] public section
set_option maxRecDepth 16384

/-! # The stages of one grid point, on what the point loads

Each stage of `Tile.lean` at the point's own loads. `hHB` says that `HB` holds the point's tile of layer 1's normalised
input; `h6` and `h7` that the two shifted loads hold the convolution's two earlier rows. -/

noncomputable section
namespace Cert.TailIdeal
open Idealize.ShloMosaic Idealize.ShloMosaic.TcCoe Idealize.SL.Sem
open Cert.TailIdeal.Gen Cert.Reals Cert.Spec

variable (m : (ℓ : Loc nD τ sig) → Buf (Elt Ideal) ℓ) (c : Dev nD) (t : Fin cfg0.N)

/-- A load of 256 columns of layer 1's input weights, none of them a query column. -/
theorem w1_ld {o : ℕ} (h : ∀ a, (![0, o] : Fin 2 → ℕ) a + (![1024, 256] : Fin 2 → ℕ) a ≤ S1024x4608.size a) (i : Fin 1024) (x : Fin 256)
    (k : Fin 4608) (hk : k.val = o + x.val) (hq : k.val < 3072 ∨ 3328 ≤ k.val) :
    (show Vec Ideal S1024x256 .bf16 from View.ld (S := S1024x4608) (e' := .bf16) (iblk m c 7 t) (Rect.unit ![0, o] ![1024, 256] h)) (ix2 i x)
      = (args m c).w1 i k :=
  (ld_at (R := 1024) (C := 4608) (φ := .bf16) (iblk m c 7 t) h i x i k (by simp) hk).trans (w1_at m c t i k (by omega))

/-- A load of 256 columns of a tap of the convolution. -/
theorem cw_ld {p o : ℕ} (h : ∀ a, (![p, o] : Fin 2 → ℕ) a + (![1, 256] : Fin 2 → ℕ) a ≤ S3x1024.size a) (x : Fin 256)
    (i : Fin 3) (k : Fin 1024) (hi : i.val = p) (hk : k.val = o + x.val) :
    (show Vec Ideal S1x256 .f32 from View.ld (S := S3x1024) (e' := .f32) (iblk m c 8 t) (Rect.unit ![p, o] ![1, 256] h)) (ix2 0 x)
      = (args m c).cw i k :=
  (ld_at (R := 3) (C := 1024) (φ := .f32) (iblk m c 8 t) h 0 x i k (by simpa using hi) hk).trans (blk8_at m c t i k)

/-- A load of 256 columns of layer 0's output weights. -/
theorem wo0_ld {o : ℕ} (h : ∀ a, (![0, o] : Fin 2 → ℕ) a + (![768, 256] : Fin 2 → ℕ) a ≤ S768x1024.size a) (i : Fin 768) (x : Fin 256)
    (k : Fin 1024) (hk : k.val = o + x.val) :
    (show Vec Ideal S768x256 .bf16 from View.ld (S := S768x1024) (e' := .bf16) (iblk m c 5 t) (Rect.unit ![0, o] ![768, 256] h)) (ix2 i x)
      = (args m c).wo0 i k :=
  (ld_at (R := 768) (C := 1024) (φ := .bf16) (iblk m c 5 t) h i x i k (by simp) hk).trans (blk5_at m c t i k)

/-- A load of 256 columns of layer 1's output weights. -/
theorem wo1_ld {o : ℕ} (h : ∀ a, (![0, o] : Fin 2 → ℕ) a + (![1280, 256] : Fin 2 → ℕ) a ≤ S1280x1024.size a) (i : Fin 1280) (x : Fin 256)
    (k : Fin 1024) (hk : k.val = o + x.val) :
    (show Vec Ideal S1280x256 .bf16 from View.ld (S := S1280x1024) (e' := .bf16) (iblk m c 10 t) (Rect.unit ![0, o] ![1280, 256] h)) (ix2 i x)
      = (args m c).wo1 i k :=
  (ld_at (R := 1280) (C := 1024) (φ := .bf16) (iblk m c 10 t) h i x i k (by simp) hk).trans (blk10_at m c t i k)

/-- A load of 256 columns of the tile's rows of the residual stream. -/
theorem x_ld {o : ℕ} (h : ∀ a, (![0, 0, o] : Fin 3 → ℕ) a + (![1, 512, 256] : Fin 3 → ℕ) a ≤ S1x512x1024.size a) (r : Fin 512) (x : Fin 256)
    (k : Fin 1024) (hk : k.val = o + x.val) :
    (show Vec Ideal S1x512x256 .f32 from View.ld (S := S1x512x1024) (e' := .f32) (iblk m c 0 t) (Rect.unit ![0, 0, o] ![1, 512, 256] h)) (ix3 0 r x)
      = (args m c).x (seqOf t) (posOf t r) k :=
  (ld3_at (R := 512) (C := 1024) (φ := .f32) (iblk m c 0 t) h r x k hk).trans (blk0_at m c t r k)

/-- A load of 128 columns of layer 0's memory keys and values. -/
theorem kv0_ld {o : ℕ} (h : ∀ a, (![0, 0, 0, o] : Fin 4 → ℕ) a + (![1, 1, 256, 128] : Fin 4 → ℕ) a ≤ S1x1x256x512.size a) (j : Fin 256) (l : Fin 128)
    (k : Fin 512) (hk : k.val = o + l.val) :
    (show Vec Ideal S1x1x256x128 .bf16 from View.ld (S := S1x1x256x512) (e' := .bf16) (iblk m c 4 t) (Rect.unit ![0, 0, 0, o] ![1, 1, 256, 128] h)) (ix4 0 0 j l)
      = (args m c).kv 0 (seqOf t) j k :=
  (ld4_at (R := 256) (C := 512) (φ := .bf16) (iblk m c 4 t) h j l k hk).trans (blk4_at m c t j k)

/-- A load of 128 columns of layer 1's memory keys and values. -/
theorem kv1_ld {o : ℕ} (h : ∀ a, (![0, 0, 0, o] : Fin 4 → ℕ) a + (![1, 1, 256, 128] : Fin 4 → ℕ) a ≤ S1x1x256x512.size a) (j : Fin 256) (l : Fin 128)
    (k : Fin 512) (hk : k.val = o + l.val) :
    (show Vec Ideal S1x1x256x128 .bf16 from View.ld (S := S1x1x256x512) (e' := .bf16) (iblk m c 9 t) (Rect.unit ![0, 0, 0, o] ![1, 1, 256, 128] h)) (ix4 0 0 j l)
      = (args m c).kv 1 (seqOf t) j k :=
  (ld4_at (R := 256) (C := 512) (φ := .bf16) (iblk m c 9 t) h j l k hk).trans (blk9_at m c t j k)

variable {m c t}

/-- Layer 0's memory attention on the point's tile. -/
theorem mem0_pt (hA : (args m c).Real) (r : Fin 512) (k : Fin 256) :
    k0_pay11 (F := Ideal) (k0_pay3 (iblk m c 2 t)) k0_pay4 k0_pay5 k0_pay6 (k0_pay8 (iblk m c 2 t) (View.ld (iblk m c 4 t) (Rect.unit ![0, 0, 0, 0] ![1, 1, 256, 128] inb_S1x1x256x512_S1x1x256x128_0_0_0_0)))
      (k0_pay9 (View.ld (iblk m c 4 t) (Rect.unit ![0, 0, 0, 256] ![1, 1, 256, 128] inb_S1x1x256x512_S1x1x256x128_0_0_0_256))) (k0_pay10 (iblk m c 2 t) (View.ld (iblk m c 4 t) (Rect.unit ![0, 0, 0, 0] ![1, 1, 256, 128] inb_S1x1x256x512_S1x1x256x128_0_0_0_0)))
      (View.ld (iblk m c 4 t) (Rect.unit ![0, 0, 0, 128] ![1, 1, 256, 128] inb_S1x1x256x512_S1x1x256x128_0_0_0_128)) (View.ld (iblk m c 4 t) (Rect.unit ![0, 0, 0, 384] ![1, 1, 256, 128] inb_S1x1x256x512_S1x1x256x128_0_0_0_384)) (ix2 r k)
      = memOut (score ((args m c).q (seqOf t) (posOf t r)) ((args m c).kv 0 (seqOf t))) ((args m c).kv 0 (seqOf t)) k :=
  mem0_at (Q := fun r => (args m c).q (seqOf t) (posOf t r)) (fun r k => blk2_at m c t r k)
    (fun j l => kv0_ld m c t _ j l _ (by simp [keyCol, pairCol])) (fun j l => kv0_ld m c t _ j l _ (by simp [valCol, pairCol]))
    (fun j l => kv0_ld m c t _ j l _ (by simp [keyCol, pairCol])) (fun j l => kv0_ld m c t _ j l _ (by simp [valCol, pairCol]; omega))
    (fun r h j => hA.score0 _ _ h j) r k

variable {HB : FVec Ideal S512x1024 .bf16} (hHB : ∀ r k, HB (ix2 r k) = (args m c).hn (seqOf t) (posOf t r) k)
include hHB

/-- Layer 1's memory attention on the point's tile, gated. -/
theorem mem1_pt (hA : (args m c).Real) (r : Fin 512) (k : Fin 256) :
    k0_pay52 HB k0_pay48 (k0_pay49 (k0_pay42 HB (View.ld (iblk m c 7 t) (Rect.unit ![0, 3072] ![1024, 256] inb_S1024x4608_S1024x256_0_3072))) k0_pay43 k0_pay44 k0_pay45 k0_pay46
        (View.ld (iblk m c 9 t) (Rect.unit ![0, 0, 0, 0] ![1, 1, 256, 128] inb_S1x1x256x512_S1x1x256x128_0_0_0_0))
        (View.ld (iblk m c 9 t) (Rect.unit ![0, 0, 0, 256] ![1, 1, 256, 128] inb_S1x1x256x512_S1x1x256x128_0_0_0_256)))
      (k0_pay50 (k0_pay42 HB (View.ld (iblk m c 7 t) (Rect.unit ![0, 3072] ![1024, 256] inb_S1024x4608_S1024x256_0_3072))) k0_pay43 k0_pay44 k0_pay45 k0_pay46
        (View.ld (iblk m c 9 t) (Rect.unit ![0, 0, 0, 128] ![1, 1, 256, 128] inb_S1x1x256x512_S1x1x256x128_0_0_0_128)))
      (k0_pay51 (k0_pay42 HB (View.ld (iblk m c 7 t) (Rect.unit ![0, 3072] ![1024, 256] inb_S1024x4608_S1024x256_0_3072))) k0_pay43 k0_pay44 k0_pay45 k0_pay46
        (View.ld (iblk m c 9 t) (Rect.unit ![0, 0, 0, 128] ![1, 1, 256, 128] inb_S1x1x256x512_S1x1x256x128_0_0_0_128)))
      (View.ld (iblk m c 9 t) (Rect.unit ![0, 0, 0, 384] ![1, 1, 256, 128] inb_S1x1x256x512_S1x1x256x128_0_0_0_384))
      (View.ld (iblk m c 7 t) (Rect.unit ![0, 4352] ![1024, 256] inb_S1024x4608_S1024x256_0_4352)) (ix2 r k)
      = (args m c).y1 (seqOf t) (posOf t r) (colM k) := by
  have hq : ∀ r k, k0_pay42 HB (View.ld (iblk m c 7 t) (Rect.unit ![0, 3072] ![1024, 256] inb_S1024x4608_S1024x256_0_3072)) (ix2 r k)
      = (args m c).q1 (seqOf t) (posOf t r) k * ((1 / 8 : ℝ) : EReal) :=
    q_at hHB fun i x => (ld_at (R := 1024) (C := 4608) (φ := .bf16) (iblk m c 7 t) _ i x i (colQ x) (by simp) rfl).trans (w1q_at m c t i x)
  have hs : ∀ r h j, score (fun k => (args m c).q1 (seqOf t) (posOf t r) k * ((1 / 8 : ℝ) : EReal)) ((args m c).kv 1 (seqOf t)) h j
      = (args m c).score1 (seqOf t) (posOf t r) h j := fun r h j => Args.score_scaled _ _ _ _
  refine (mem1_at (Q := fun r k => (args m c).q1 (seqOf t) (posOf t r) k * ((1 / 8 : ℝ) : EReal)) (kv := (args m c).kv 1 (seqOf t)) HB _ hq
    (fun j l => kv1_ld m c t _ j l _ (by simp [keyCol, pairCol])) (fun j l => kv1_ld m c t _ j l _ (by simp [valCol, pairCol]))
    (fun j l => kv1_ld m c t _ j l _ (by simp [keyCol, pairCol])) (fun j l => kv1_ld m c t _ j l _ (by simp [valCol, pairCol]; omega))
    (fun r h j => by rw [hs]; exact hA.score1 _ _ h j) r k).trans ?_
  have hlt : ¬ ((colM k).val < 1024) := by simp [colM]
  rw [Args.y1, dif_neg hlt]
  refine congrArg₂ (· * ·) ?_ ?_
  · rw [show score (fun k => (args m c).q1 (seqOf t) (posOf t r) k * ((1 / 8 : ℝ) : EReal)) ((args m c).kv 1 (seqOf t))
      = (args m c).score1 (seqOf t) (posOf t r) from funext fun h => funext fun j => hs r h j]
    exact congrArg _ (Fin.ext (by simp [colM]))
  · refine congrArg silu (Finset.sum_congr rfl fun i _ => ?_)
    rw [hHB]
    refine congrArg₂ (· * ·) rfl (w1_ld m c t _ i k _ ?_ ?_)
    · simp [colM] <;> omega
    · simp [colM] <;> omega

/-- Chunk 0 of the product that the convolution runs over. -/
theorem a_pt0 (r : Fin 512) (x : Fin 256) :
    k0_pay24 HB (k0_pay22 (View.ld (iblk m c 7 t) (Rect.unit ![0, 1024] ![1024, 256] inb_S1024x4608_S1024x256_0_1024))) (constant S512x256 FTy.f32 0#32)
      (View.ld (iblk m c 7 t) (Rect.unit ![0, 2048] ![1024, 256] inb_S1024x4608_S1024x256_0_2048)) (ix2 r x)
      = (args m c).a (seqOf t) (posOf t r) (chunk 0 x) :=
  a_first hHB (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega)) r x

/-- Chunk 1 of the product that the convolution runs over. -/
theorem a_pt1 (r : Fin 512) (x : Fin 256) :
    k0_pay28 HB (View.ld (iblk m c 7 t) (Rect.unit ![0, 1280] ![1024, 256] inb_S1024x4608_S1024x256_0_1280))
      (View.ld (iblk m c 7 t) (Rect.unit ![0, 2304] ![1024, 256] inb_S1024x4608_S1024x256_0_2304)) (ix2 r x)
      = (args m c).a (seqOf t) (posOf t r) (chunk 1 x) :=
  a_second hHB (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega)) r x

/-- Chunk 2 of the product that the convolution runs over. -/
theorem a_pt2 (r : Fin 512) (x : Fin 256) :
    k0_pay33 HB (View.ld (iblk m c 7 t) (Rect.unit ![0, 1536] ![1024, 256] inb_S1024x4608_S1024x256_0_1536))
      (View.ld (iblk m c 7 t) (Rect.unit ![0, 2560] ![1024, 256] inb_S1024x4608_S1024x256_0_2560)) (ix2 r x)
      = (args m c).a (seqOf t) (posOf t r) (chunk 2 x) :=
  a_third hHB (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega)) r x

/-- Chunk 3 of the product that the convolution runs over. -/
theorem a_pt3 (r : Fin 512) (x : Fin 256) :
    k0_pay38 HB (View.ld (iblk m c 7 t) (Rect.unit ![0, 1792] ![1024, 256] inb_S1024x4608_S1024x256_0_1792))
      (View.ld (iblk m c 7 t) (Rect.unit ![0, 2816] ![1024, 256] inb_S1024x4608_S1024x256_0_2816)) (ix2 r x)
      = (args m c).a (seqOf t) (posOf t r) (chunk 3 x) :=
  a_fourth hHB (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega)) r x

variable {A6 A7 : Vec Ideal S512x256 .f32}

/-- Chunk 0 of the convolution's columns of layer 1's gated branches. -/
theorem y1_pt0 (h6 : ∀ r x, A6 (ix2 r x) = (args m c).aPad (seqOf t) (6 + (posOf t r).val) (chunk 0 x))
    (h7 : ∀ r x, A7 (ix2 r x) = (args m c).aPad (seqOf t) (7 + (posOf t r).val) (chunk 0 x)) (r : Fin 512) (x : Fin 256) :
    k0_pay26 (k0_pay25 HB (k0_pay22 (View.ld (iblk m c 7 t) (Rect.unit ![0, 1024] ![1024, 256] inb_S1024x4608_S1024x256_0_1024))) (constant S512x256 FTy.f32 0#32)
      (View.ld (iblk m c 7 t) (Rect.unit ![0, 2048] ![1024, 256] inb_S1024x4608_S1024x256_0_2048))
      (View.ld (iblk m c 8 t) (Rect.unit ![0, 0] ![1, 256] inb_S3x1024_S1x256_0_0)) A6
      (View.ld (iblk m c 8 t) (Rect.unit ![1, 0] ![1, 256] inb_S3x1024_S1x256_1_0)) A7
      (View.ld (iblk m c 8 t) (Rect.unit ![2, 0] ![1, 256] inb_S3x1024_S1x256_2_0))
      (View.ld (iblk m c 7 t) (Rect.unit ![0, 0] ![1024, 256] inb_S1024x4608_S1024x256_0_0))
      (View.ld (iblk m c 7 t) (Rect.unit ![0, 3328] ![1024, 256] inb_S1024x4608_S1024x256_0_3328))) (ix2 r x)
      = (args m c).y1 (seqOf t) (posOf t r) (colY (chunk 0 x)) :=
  y1_first hHB
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    r x
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    (fun x => cw_ld m c t _ x _ _ (by rfl) (by simp [chunk]))
    (fun x => cw_ld m c t _ x _ _ (by rfl) (by simp [chunk]))
    (fun x => cw_ld m c t _ x _ _ (by rfl) (by simp [chunk])) h6 h7

/-- Chunk 1 of the convolution's columns of layer 1's gated branches. -/
theorem y1_pt1 (h6 : ∀ r x, A6 (ix2 r x) = (args m c).aPad (seqOf t) (6 + (posOf t r).val) (chunk 1 x))
    (h7 : ∀ r x, A7 (ix2 r x) = (args m c).aPad (seqOf t) (7 + (posOf t r).val) (chunk 1 x)) (r : Fin 512) (x : Fin 256) :
    k0_pay31 HB (k0_pay29 HB (View.ld (iblk m c 7 t) (Rect.unit ![0, 1280] ![1024, 256] inb_S1024x4608_S1024x256_0_1280))
      (View.ld (iblk m c 7 t) (Rect.unit ![0, 2304] ![1024, 256] inb_S1024x4608_S1024x256_0_2304))
      (View.ld (iblk m c 8 t) (Rect.unit ![0, 256] ![1, 256] inb_S3x1024_S1x256_0_256)) A6
      (View.ld (iblk m c 8 t) (Rect.unit ![1, 256] ![1, 256] inb_S3x1024_S1x256_1_256)) A7
      (View.ld (iblk m c 8 t) (Rect.unit ![2, 256] ![1, 256] inb_S3x1024_S1x256_2_256))
      (View.ld (iblk m c 7 t) (Rect.unit ![0, 256] ![1024, 256] inb_S1024x4608_S1024x256_0_256)))
      (k0_pay30 (View.ld (iblk m c 7 t) (Rect.unit ![0, 3584] ![1024, 256] inb_S1024x4608_S1024x256_0_3584))) (constant S512x256 FTy.f32 0#32) (ix2 r x)
      = (args m c).y1 (seqOf t) (posOf t r) (colY (chunk 1 x)) :=
  y1_second hHB
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    r x
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    (fun x => cw_ld m c t _ x _ _ (by rfl) (by simp [chunk]))
    (fun x => cw_ld m c t _ x _ _ (by rfl) (by simp [chunk]))
    (fun x => cw_ld m c t _ x _ _ (by rfl) (by simp [chunk])) h6 h7

/-- Chunk 2 of the convolution's columns of layer 1's gated branches. -/
theorem y1_pt2 (h6 : ∀ r x, A6 (ix2 r x) = (args m c).aPad (seqOf t) (6 + (posOf t r).val) (chunk 2 x))
    (h7 : ∀ r x, A7 (ix2 r x) = (args m c).aPad (seqOf t) (7 + (posOf t r).val) (chunk 2 x)) (r : Fin 512) (x : Fin 256) :
    k0_pay36 HB (k0_pay34 HB (View.ld (iblk m c 7 t) (Rect.unit ![0, 1536] ![1024, 256] inb_S1024x4608_S1024x256_0_1536))
      (View.ld (iblk m c 7 t) (Rect.unit ![0, 2560] ![1024, 256] inb_S1024x4608_S1024x256_0_2560))
      (View.ld (iblk m c 8 t) (Rect.unit ![0, 512] ![1, 256] inb_S3x1024_S1x256_0_512)) A6
      (View.ld (iblk m c 8 t) (Rect.unit ![1, 512] ![1, 256] inb_S3x1024_S1x256_1_512)) A7
      (View.ld (iblk m c 8 t) (Rect.unit ![2, 512] ![1, 256] inb_S3x1024_S1x256_2_512)))
      (k0_pay35 (View.ld (iblk m c 7 t) (Rect.unit ![0, 512] ![1024, 256] inb_S1024x4608_S1024x256_0_512)))
      (View.ld (iblk m c 7 t) (Rect.unit ![0, 3840] ![1024, 256] inb_S1024x4608_S1024x256_0_3840)) (ix2 r x)
      = (args m c).y1 (seqOf t) (posOf t r) (colY (chunk 2 x)) :=
  y1_third hHB
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    r x
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    (fun x => cw_ld m c t _ x _ _ (by rfl) (by simp [chunk]))
    (fun x => cw_ld m c t _ x _ _ (by rfl) (by simp [chunk]))
    (fun x => cw_ld m c t _ x _ _ (by rfl) (by simp [chunk])) h6 h7

/-- Chunk 3 of the convolution's columns of layer 1's gated branches. -/
theorem y1_pt3 (h6 : ∀ r x, A6 (ix2 r x) = (args m c).aPad (seqOf t) (6 + (posOf t r).val) (chunk 3 x))
    (h7 : ∀ r x, A7 (ix2 r x) = (args m c).aPad (seqOf t) (7 + (posOf t r).val) (chunk 3 x)) (r : Fin 512) (x : Fin 256) :
    k0_pay40 HB (k0_pay37 HB (View.ld (iblk m c 7 t) (Rect.unit ![0, 1792] ![1024, 256] inb_S1024x4608_S1024x256_0_1792))
      (View.ld (iblk m c 7 t) (Rect.unit ![0, 2816] ![1024, 256] inb_S1024x4608_S1024x256_0_2816)))
      (k0_pay39 (View.ld (iblk m c 8 t) (Rect.unit ![0, 768] ![1, 256] inb_S3x1024_S1x256_0_768)) A6
      (View.ld (iblk m c 8 t) (Rect.unit ![1, 768] ![1, 256] inb_S3x1024_S1x256_1_768)) A7)
      (View.ld (iblk m c 8 t) (Rect.unit ![2, 768] ![1, 256] inb_S3x1024_S1x256_2_768))
      (View.ld (iblk m c 7 t) (Rect.unit ![0, 768] ![1024, 256] inb_S1024x4608_S1024x256_0_768))
      (View.ld (iblk m c 7 t) (Rect.unit ![0, 4096] ![1024, 256] inb_S1024x4608_S1024x256_0_4096)) (ix2 r x)
      = (args m c).y1 (seqOf t) (posOf t r) (colY (chunk 3 x)) :=
  y1_fourth hHB
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    r x
    (fun i x => w1_ld m c t _ i x _ (by simp [chunk, colB, colC, colU, colZ] <;> omega) (by simp [chunk, colB, colC, colU, colZ] <;> omega))
    (fun i x => w1_ld m c t _ i x _ (by simp [chunk, colB, colC, colU, colZ] <;> omega) (by simp [chunk, colB, colC, colU, colZ] <;> omega))
    (fun x => cw_ld m c t _ x _ _ (by rfl) (by simp [chunk]))
    (fun x => cw_ld m c t _ x _ _ (by rfl) (by simp [chunk]))
    (fun x => cw_ld m c t _ x _ _ (by rfl) (by simp [chunk])) h6 h7

end Cert.TailIdeal
end
-- ==== Proof.Halo.lean ====
module
public import proofs.«01_k».proof.Proof.Stages
@[expose] public section
set_option maxRecDepth 16384

/-! # The scratch array that the convolution reads

Rows 8..519 hold the tile's product by chunks of columns; rows 0..7 hold the rows before it: the previous tile's last
eight, or zeros at the start of a sequence. The convolution reads it from rows 6 and 7 on. -/

noncomputable section
namespace Cert.TailIdeal
open Idealize.ShloMosaic Idealize.ShloMosaic.TcCoe Idealize.SL.Sem
open Cert.TailIdeal.Gen Cert.Reals Cert.Spec

variable {A : Args} {b : Fin 8} {q : ℕ} {s : Fin 512 → Fin 2048} (hs : ∀ r, (s r).val = 512 * q + r.val)

theorem aPad_of {n : ℕ} {t : Fin 2048} (h : n = 8 + t.val) (c : Fin 1024) : A.aPad b n c = A.a b t c := by
  rw [h, aPad_eight]

section Read
variable {sig : RefSig} {κ : Kind} {sp : Space} (v : View sig κ sp S520x1024 .f32) (f : v.ty.Contents (Elt Ideal))
  {L : List (View.Piece (Elt Ideal) S520x1024 .f32)} {j : Fin 4} {d o : ℕ} {P : Vec Ideal S512x256 .f32}
  {h : ∀ a, (![8, o] : Fin 2 → ℕ) a + (![512, 256] : Fin 2 → ℕ) a ≤ S520x1024.size a}

/-- Writing a chunk of the tile's product leaves the first eight rows. -/
theorem keep_rows (hL : ∀ (i : Fin 520) c, i.val < 8 → v.read (Elt Ideal) (v.writes (Elt Ideal) f L) (ix2 i c) = A.aPad b (512 * q + i.val) c)
    (i : Fin 520) (c : Fin 1024) (hi : i.val < 8) :
    v.read (Elt Ideal) (v.writes (Elt Ideal) f (⟨Rect.unit (s := S520x1024) ![8, o] ![512, 256] h, P⟩ :: L)) (ix2 i c) = A.aPad b (512 * q + i.val) c :=
  (writes_miss (R := 520) (C := 1024) (φ := .f32) h P L v f (Or.inl hi)).trans (hL i c hi)

include hs in
/-- The rows from `d` on, on the chunk just written. -/
theorem shift_at (hL : ∀ (i : Fin 520) c, i.val < 8 → v.read (Elt Ideal) (v.writes (Elt Ideal) f L) (ix2 i c) = A.aPad b (512 * q + i.val) c)
    (hP : ∀ r x, P (ix2 r x) = A.a b (s r) (chunk j x)) (ho : o = 256 * j.val) (hd : d ≤ 8)
    {h' : ∀ a, (![d, o] : Fin 2 → ℕ) a + (![512, 256] : Fin 2 → ℕ) a ≤ S520x1024.size a} (r : Fin 512) (x : Fin 256) :
    v.read (Elt Ideal) (v.writes (Elt Ideal) f (⟨Rect.unit (s := S520x1024) ![8, o] ![512, 256] h, P⟩ :: L))
        ((Rect.unit (s := S520x1024) ![d, o] ![512, 256] h').idx (ix2 r x)) = A.aPad b (d + (s r).val) (chunk j x) := by
  have e := idx_at (R := 520) (C := 1024) h' r x (i' := ⟨d + r.val, by omega⟩) (j' := chunk j x) rfl (by simp [chunk, ho])
  refine (congrArg _ e).trans ?_
  have h1 := hs r
  by_cases hr : 8 ≤ d + r.val
  · have h2 := hs ⟨d + r.val - 8, by omega⟩
    refine (writes_hit (R := 520) (C := 1024) (φ := .f32) h P L v f ⟨d + r.val - 8, by omega⟩ x (by simp only []; omega) (by simp [chunk, ho])).trans ?_
    rw [hP]
    refine (aPad_of ?_ _).symm
    simp only [] at h2
    omega
  · refine (writes_miss (R := 520) (C := 1024) (φ := .f32) h P L v f (Or.inl (by simp only []; omega))).trans ?_
    refine (hL _ _ (by simp only []; omega)).trans (congrArg (fun n => A.aPad b n _) ?_)
    simp only []
    omega

/-- At the start of a sequence the first eight rows are zeros. -/
theorem zero_rows {Z : Vec Ideal S8x1024 .f32} (hZ : ∀ i c, Z (ix2 i c) = 0) {h : ∀ a, (![0, 0] : Fin 2 → ℕ) a + (![8, 1024] : Fin 2 → ℕ) a ≤ S520x1024.size a} (hq : q = 0)
    (i : Fin 520) (c : Fin 1024) (hi : i.val < 8) :
    v.read (Elt Ideal) (v.writes (Elt Ideal) f (⟨Rect.unit (s := S520x1024) ![0, 0] ![8, 1024] h, Z⟩ :: L)) (ix2 i c) = A.aPad b (512 * q + i.val) c := by
  refine (writes_hit (R := 520) (C := 1024) (φ := .f32) h Z L v f ⟨i.val, hi⟩ c (Nat.zero_add _).symm (Nat.zero_add _).symm).trans ?_
  rw [hZ, Args.aPad, dif_neg (by omega)]

end Read

variable {P0 P1 P2 P3 : Vec Ideal S512x256 .f32} (h0 : ∀ r x, P0 (ix2 r x) = A.a b (s r) (chunk 0 x))
  (h1 : ∀ r x, P1 (ix2 r x) = A.a b (s r) (chunk 1 x)) (h2 : ∀ r x, P2 (ix2 r x) = A.a b (s r) (chunk 2 x))
  (h3 : ∀ r x, P3 (ix2 r x) = A.a b (s r) (chunk 3 x)) (L : List (View.Piece (Elt Ideal) S520x1024 .f32))
include h0 h1 h2 h3

/-- The tile's product by rows and columns. -/
theorem rows_at (r : Fin 512) (c : Fin 1024) {i : Fin 520} (hi : i.val = 8 + r.val) :
    View.canon (⟨Rect.unit (s := S520x1024) ![8, 768] ![512, 256] inb_S520x1024_S512x256_8_768, P3⟩
      :: ⟨Rect.unit (s := S520x1024) ![8, 512] ![512, 256] inb_S520x1024_S512x256_8_512, P2⟩
      :: ⟨Rect.unit (s := S520x1024) ![8, 256] ![512, 256] inb_S520x1024_S512x256_8_256, P1⟩
      :: ⟨Rect.unit (s := S520x1024) ![8, 0] ![512, 256] inb_S520x1024_S512x256_8_0, P0⟩ :: L) (ix2 i c) = A.a b (s r) c := by
  by_cases c3 : 768 ≤ c.val
  · refine (canon_hit _ _ _ r ⟨c.val - 768, by omega⟩ hi (by simp only []; omega)).trans ((h3 _ _).trans (congrArg (A.a b (s r)) (Fin.ext ?_)))
    simp [chunk]; omega
  refine (canon_miss _ _ _ (by omega)).trans ?_
  by_cases c2 : 512 ≤ c.val
  · refine (canon_hit _ _ _ r ⟨c.val - 512, by omega⟩ hi (by simp only []; omega)).trans ((h2 _ _).trans (congrArg (A.a b (s r)) (Fin.ext ?_)))
    simp [chunk]; omega
  refine (canon_miss _ _ _ (by omega)).trans ?_
  by_cases c1 : 256 ≤ c.val
  · refine (canon_hit _ _ _ r ⟨c.val - 256, by omega⟩ hi (by simp only []; omega)).trans ((h1 _ _).trans (congrArg (A.a b (s r)) (Fin.ext ?_)))
    simp [chunk]; omega
  refine (canon_miss _ _ _ (by omega)).trans ?_
  refine (canon_hit _ _ _ r ⟨c.val, by omega⟩ hi (by simp only []; omega)).trans ((h0 _ _).trans (congrArg (A.a b (s r)) (Fin.ext ?_)))
  simp [chunk]

include hs in
/-- What the tile leaves in the first eight rows: its own last eight. -/
theorem left_at {sig : RefSig} {κ : Kind} {sp : Space} (v : View sig κ sp S520x1024 .f32) (L' : List (View.Piece (Elt Ideal) S520x1024 .f32))
    (i : Fin 520) (c : Fin 1024) (hi : i.val < 8) :
    View.canon (Val := Elt Ideal) (s := S520x1024) (e := .f32) (⟨Rect.unit ![0, 0] ![8, 1024] inb_S520x1024_S8x1024_0_0,
      k0_pay41 (F := Ideal) (v.readCov (Val := Elt Ideal)
        (⟨Rect.unit (s := S520x1024) ![8, 768] ![512, 256] inb_S520x1024_S512x256_8_768, P3⟩
          :: ⟨Rect.unit (s := S520x1024) ![8, 512] ![512, 256] inb_S520x1024_S512x256_8_512, P2⟩
          :: ⟨Rect.unit (s := S520x1024) ![8, 256] ![512, 256] inb_S520x1024_S512x256_8_256, P1⟩
          :: ⟨Rect.unit (s := S520x1024) ![8, 0] ![512, 256] inb_S520x1024_S512x256_8_0, P0⟩ :: L)
        (Rect.unit (s := S520x1024) ![512, 0] ![8, 1024] inb_S520x1024_S8x1024_512_0).toLoadRect)⟩ :: L') (ix2 i c)
      = A.aPad b (512 * (q + 1) + i.val) c := by
  refine (canon_hit (R := 520) (C := 1024) (φ := .f32) _ _ _ ⟨i.val, hi⟩ c (Nat.zero_add _).symm (Nat.zero_add _).symm).trans ?_
  pointwise [k0_pay41]
  refine (readCov_at (R := 520) (C := 1024) (φ := .f32) _ _ v ⟨i.val, hi⟩ c ⟨512 + i.val, by omega⟩ c rfl (Nat.zero_add _).symm).trans ?_
  refine (rows_at h0 h1 h2 h3 L ⟨504 + i.val, by omega⟩ c (by simp only []; omega)).trans ?_
  have e : (s ⟨504 + i.val, by omega⟩).val = 512 * q + (504 + i.val) := hs _
  exact (aPad_of (by omega) _).symm

end Cert.TailIdeal
end
-- ==== Proof.Point.lean ====
module
public import proofs.«01_k».proof.Proof.Halo
public import proofs.«01_k».proof.Proof.Pieces
@[expose] public section
set_option maxRecDepth 16384

/-! # One grid point of the kernel -/

noncomputable section
namespace Cert.TailIdeal
open Idealize.ShloMosaic Idealize.ShloMosaic.TcCoe Idealize.SL.Sem
open Cert.TailIdeal.Gen Cert.Reals Cert.Spec

variable {m : (ℓ : Loc nD τ sig) → Buf (Elt Ideal) ℓ} {c : Dev nD} {t : Fin cfg0.N}

section Residual
variable {M0 : FVec Ideal S512x256 .f32}
  (hM : ∀ r k, M0 (ix2 r k) = memOut (score ((args m c).q (seqOf t) (posOf t r)) ((args m c).kv 0 (seqOf t))) ((args m c).kv 0 (seqOf t)) k)
include hM

/-- The residual stream after layer 0, as stored. -/
theorem h1_pt (r : Fin 512) (k : Fin 1024) :
    View.canon (Val := Elt Ideal) (s := S512x1024) (e := .f32)
      [⟨Rect.unit ![0, 768] ![512, 256] inb_S512x1024_S512x256_0_768, k0_pay19 (k0_pay15 M0 (k0_pay13 (iblk m c 3 t) (iblk m c 1 t)) (k0_pay14 (iblk m c 3 t)))
          (View.ld (iblk m c 0 t) (Rect.unit ![0, 0, 768] ![1, 512, 256] inb_S1x512x1024_S1x512x256_0_0_768)) (View.ld (iblk m c 5 t) (Rect.unit ![0, 768] ![768, 256] inb_S768x1024_S768x256_0_768))⟩,
       ⟨Rect.unit ![0, 512] ![512, 256] inb_S512x1024_S512x256_0_512, k0_pay18 M0 (k0_pay13 (iblk m c 3 t) (iblk m c 1 t)) (k0_pay14 (iblk m c 3 t))
          (View.ld (iblk m c 0 t) (Rect.unit ![0, 0, 512] ![1, 512, 256] inb_S1x512x1024_S1x512x256_0_0_512)) (View.ld (iblk m c 5 t) (Rect.unit ![0, 512] ![768, 256] inb_S768x1024_S768x256_0_512))⟩,
       ⟨Rect.unit ![0, 256] ![512, 256] inb_S512x1024_S512x256_0_256, k0_pay17 M0 (k0_pay13 (iblk m c 3 t) (iblk m c 1 t)) (k0_pay14 (iblk m c 3 t))
          (View.ld (iblk m c 0 t) (Rect.unit ![0, 0, 256] ![1, 512, 256] inb_S1x512x1024_S1x512x256_0_0_256)) (View.ld (iblk m c 5 t) (Rect.unit ![0, 256] ![768, 256] inb_S768x1024_S768x256_0_256))⟩,
       ⟨Rect.unit ![0, 0] ![512, 256] inb_S512x1024_S512x256_0_0, k0_pay16 M0 (k0_pay13 (iblk m c 3 t) (iblk m c 1 t)) (k0_pay14 (iblk m c 3 t))
          (View.ld (iblk m c 0 t) (Rect.unit ![0, 0, 0] ![1, 512, 256] inb_S1x512x1024_S1x512x256_0_0_0)) (View.ld (iblk m c 5 t) (Rect.unit ![0, 0] ![768, 256] inb_S768x1024_S768x256_0_0))⟩] (ix2 r k)
      = (args m c).h1 (seqOf t) (posOf t r) k := by
  have hy := y0_at hM (fun r k => blk3_at m c t r k) (fun r k => blk1_at m c t r k)
  exact chunks4
    (h1_first hy (fun r x => x_ld m c t _ r x _ (by simp [chunk])) (fun i x => wo0_ld m c t _ i x _ (by simp [chunk])))
    (h1_second hy (fun r x => x_ld m c t _ r x _ (by simp [chunk])) (fun i x => wo0_ld m c t _ i x _ (by simp [chunk])))
    (h1_third hy (fun r x => x_ld m c t _ r x _ (by simp [chunk])) (fun i x => wo0_ld m c t _ i x _ (by simp [chunk])))
    (h1_fourth hy (fun r x => x_ld m c t _ r x _ (by simp [chunk])) (fun i x => wo0_ld m c t _ i x _ (by simp [chunk]))) r k

end Residual

/-- A load of the residual stream's chunk `j`. -/
theorem chunk_ld {L : List (View.Piece (Elt Ideal) S512x1024 .f32)} (v : View sig .tc .vmem S512x1024 .f32) (hL : ∀ r k, View.canon L (ix2 r k) = (args m c).h1 (seqOf t) (posOf t r) k)
    {o : ℕ} {h : ∀ a, (![0, o] : Fin 2 → ℕ) a + (![512, 256] : Fin 2 → ℕ) a ≤ S512x1024.size a} {j : Fin 4} (ho : 256 * j.val = o) (r : Fin 512) (x : Fin 256) :
    v.readCov (Val := Elt Ideal) L (Rect.unit (s := S512x1024) ![0, o] ![512, 256] h).toLoadRect (ix2 r x) = (args m c).h1 (seqOf t) (posOf t r) (chunk j x) :=
  (readCov_at (R := 512) (C := 1024) (φ := .f32) _ _ v r x r (chunk j x) (Nat.zero_add _).symm (by simp [chunk, ho])).trans (hL _ _)

/-- A load of the whole residual stream. -/
theorem whole_ld {L : List (View.Piece (Elt Ideal) S512x1024 .f32)} (v : View sig .tc .vmem S512x1024 .f32) (hL : ∀ r k, View.canon L (ix2 r k) = (args m c).h1 (seqOf t) (posOf t r) k)
    (r : Fin 512) (k : Fin 1024) :
    v.readCov (Val := Elt Ideal) L (Rect.unit (s := S512x1024) ![0, 0] ![512, 1024] inb_S512x1024_S512x1024_0_0).toLoadRect (ix2 r k) = (args m c).h1 (seqOf t) (posOf t r) k :=
  (readCov_at (R := 512) (C := 1024) (φ := .f32) _ _ v r k r k (Nat.zero_add _).symm (Nat.zero_add _).symm).trans (hL _ _)

/-- Layer 1's normalised input on the point's tile. -/
theorem hn_pt {H : FVec Ideal S512x1024 .f32} (hH : ∀ r k, H (ix2 r k) = (args m c).h1 (seqOf t) (posOf t r) k) (r : Fin 512) (k : Fin 1024) :
    k0_pay20 H (iblk m c 6 t) (ix2 r k) = (args m c).hn (seqOf t) (posOf t r) k :=
  hn_at hH (fun k => blk6_at m c t k) r k

section Last
variable {Y : Vec Ideal S512x1280 .bf16} {C0 C1 C2 C3 : Vec Ideal S512x256 .f32}
  (hY : ∀ r k, Y (ix2 r k) = (args m c).y1 (seqOf t) (posOf t r) k)
  (hC0 : ∀ r x, C0 (ix2 r x) = (args m c).h1 (seqOf t) (posOf t r) (chunk 0 x)) (hC1 : ∀ r x, C1 (ix2 r x) = (args m c).h1 (seqOf t) (posOf t r) (chunk 1 x))
  (hC2 : ∀ r x, C2 (ix2 r x) = (args m c).h1 (seqOf t) (posOf t r) (chunk 2 x)) (hC3 : ∀ r x, C3 (ix2 r x) = (args m c).h1 (seqOf t) (posOf t r) (chunk 3 x))
include hY hC0 hC1 hC2 hC3

/-- The point's tile of the result. -/
theorem last_pt {κ : Kind} {sp : Space} (v : View sig κ sp S1x512x1024 .f32) (r : Fin 512) (k : Fin 1024) :
    k0_pay2 (k0_pay59 Y (k0_pay54 Y C0 (View.ld (iblk m c 10 t) (Rect.unit ![0, 0] ![1280, 256] inb_S1280x1024_S1280x256_0_0)))
        C1 (View.ld (iblk m c 10 t) (Rect.unit ![0, 256] ![1280, 256] inb_S1280x1024_S1280x256_0_256))
        C2 (View.ld (iblk m c 10 t) (Rect.unit ![0, 512] ![1280, 256] inb_S1280x1024_S1280x256_0_512)))
      (k0_pay62 Y C3 (View.ld (iblk m c 10 t) (Rect.unit ![0, 768] ![1280, 256] inb_S1280x1024_S1280x256_0_768)))
      (v.readCov (Val := Elt Ideal) [⟨Rect.unit ![0, 0, 768] ![1, 512, 256] inb_S1x512x1024_S1x512x256_0_0_768, k0_pay1 (k0_pay61 Y C3 (View.ld (iblk m c 10 t) (Rect.unit ![0, 768] ![1280, 256] inb_S1280x1024_S1280x256_0_768)))⟩,
        ⟨Rect.unit ![0, 0, 512] ![1, 512, 256] inb_S1x512x1024_S1x512x256_0_0_512, k0_pay60 Y C2 (View.ld (iblk m c 10 t) (Rect.unit ![0, 512] ![1280, 256] inb_S1280x1024_S1280x256_0_512))⟩,
        ⟨Rect.unit ![0, 0, 256] ![1, 512, 256] inb_S1x512x1024_S1x512x256_0_0_256, k0_pay57 Y C1 (View.ld (iblk m c 10 t) (Rect.unit ![0, 256] ![1280, 256] inb_S1280x1024_S1280x256_0_256))⟩,
        ⟨Rect.unit ![0, 0, 0] ![1, 512, 256] inb_S1x512x1024_S1x512x256_0_0_0, k0_pay55 (k0_pay53 Y C0 (View.ld (iblk m c 10 t) (Rect.unit ![0, 0] ![1280, 256] inb_S1280x1024_S1280x256_0_0)))⟩]
        (Rect.unit (s := S1x512x1024) ![0, 0, 0] ![1, 512, 1024] inb_S1x512x1024_S1x512x1024_0_0_0).toLoadRect) (iblk m c 11 t) (ix3 0 r k)
      = (args m c).out (seqOf t) (posOf t r) k := by
  have hW0 : ∀ i x, View.ld (S := S1280x1024) (e' := .bf16) (iblk m c 10 t) (Rect.unit ![0, 0] ![1280, 256] inb_S1280x1024_S1280x256_0_0) (ix2 i x) = (args m c).wo1 i (chunk 0 x) :=
    fun i x => wo1_ld m c t _ i x _ (by simp [chunk])
  have hW1 : ∀ i x, View.ld (S := S1280x1024) (e' := .bf16) (iblk m c 10 t) (Rect.unit ![0, 256] ![1280, 256] inb_S1280x1024_S1280x256_0_256) (ix2 i x) = (args m c).wo1 i (chunk 1 x) :=
    fun i x => wo1_ld m c t _ i x _ (by simp [chunk])
  have hW2 : ∀ i x, View.ld (S := S1280x1024) (e' := .bf16) (iblk m c 10 t) (Rect.unit ![0, 512] ![1280, 256] inb_S1280x1024_S1280x256_0_512) (ix2 i x) = (args m c).wo1 i (chunk 2 x) :=
    fun i x => wo1_ld m c t _ i x _ (by simp [chunk])
  have hW3 : ∀ i x, View.ld (S := S1280x1024) (e' := .bf16) (iblk m c 10 t) (Rect.unit ![0, 768] ![1280, 256] inb_S1280x1024_S1280x256_0_768) (ix2 i x) = (args m c).wo1 i (chunk 3 x) :=
    fun i x => wo1_ld m c t _ i x _ (by simp [chunk])
  generalize (View.ld (S := S1280x1024) (e' := .bf16) (iblk m c 10 t) (Rect.unit ![0, 0] ![1280, 256] inb_S1280x1024_S1280x256_0_0)) = W0 at *
  generalize (View.ld (S := S1280x1024) (e' := .bf16) (iblk m c 10 t) (Rect.unit ![0, 256] ![1280, 256] inb_S1280x1024_S1280x256_0_256)) = W1 at *
  generalize (View.ld (S := S1280x1024) (e' := .bf16) (iblk m c 10 t) (Rect.unit ![0, 512] ![1280, 256] inb_S1280x1024_S1280x256_0_512)) = W2 at *
  generalize (View.ld (S := S1280x1024) (e' := .bf16) (iblk m c 10 t) (Rect.unit ![0, 768] ![1280, 256] inb_S1280x1024_S1280x256_0_768)) = W3 at *
  refine out_at hY hC0 hC1 hC2 hC3 hW0 hW1 hW2 hW3 (stage4 v (f := fun r k => (args m c).h2 (seqOf t) (posOf t r) k)
    (fun r x => ?_) (fun r x => ?_) (fun r x => ?_) (fun r x => ?_)) (fun k => blk11_at m c t k) r k
  · pointwise [k0_pay55, k0_pay53]
    exact h2_eq hY hC0 hW0 r x
  · pointwise [k0_pay57, k0_pay56]
    exact h2_eq hY hC1 hW1 r x
  · pointwise [k0_pay60, k0_pay58]
    exact h2_eq hY hC2 hW2 r x
  · pointwise [k0_pay1, k0_pay61]
    exact h2_eq hY hC3 hW3 r x

end Last

end Cert.TailIdeal
end
-- ==== Proof.Cases.lean ====
module
public import proofs.«01_k».proof.Proof.Point
@[expose] public section
set_option maxRecDepth 16384

/-! # Every grid point of the kernel: what it writes out and what it leaves for the next one -/

noncomputable section
namespace Cert.TailIdeal
open Idealize.ShloMosaic Idealize.ShloMosaic.TcCoe Idealize.SL.Sem
open Cert.TailIdeal.Gen Cert.Reals Cert.Spec

variable {m : (ℓ : Loc nD τ sig) → Buf (Elt Ideal) ℓ} {c : Dev nD} (hA : (args m c).Real) (t : Fin cfg0.N)
include hA

omit hA in
theorem pos_val (t : Fin cfg0.N) (r : Fin 512) : (posOf t r).val = 512 * (t.val % 4) + r.val := rfl

/-- A point leaves its product's last eight rows to the next one. -/
theorem left_pt (i : Fin 520) (k : Fin 1024) (hi : i.val < 8) :
    (show Vec Ideal S520x1024 .f32 from (outsAt0 m c t.val t.isLt).2) (ix2 i k) = (args m c).aPad (seqOf t) (512 * (t.val % 4 + 1) + i.val) k := by
  by_cases h : t.val % 4 = 0
  · rw [outsAt0_A m c t h]
    frame_out
    generalize hmem : k0_pay11 (F := Ideal) _ _ _ _ _ _ _ _ _ = M0
    have hM := fun r k => (congrFun hmem.symm (ix2 r k)).trans (mem0_pt hA r k)
    generalize hH : View.readCov (Val := Elt Ideal) (View.whole cc0_scratch2) _ (Rect.unit ![0, 0] ![512, 1024] inb_S512x1024_S512x1024_0_0).toLoadRect = H
    have hH' := fun r k => (congrFun hH.symm (ix2 r k)).trans (whole_ld _ (h1_pt hM) r k)
    generalize hhb : k0_pay20 (F := Ideal) H _ = HB
    have hHB := fun r k => (congrFun hhb.symm (ix2 r k)).trans (hn_pt hH' r k)
    exact left_at (pos_val t) (a_pt0 hHB) (a_pt1 hHB) (a_pt2 hHB) (a_pt3 hHB) _ _ _ i k hi
  · rw [outsAt0_B m c t h]
    frame_out
    generalize hmem : k0_pay11 (F := Ideal) _ _ _ _ _ _ _ _ _ = M0
    have hM := fun r k => (congrFun hmem.symm (ix2 r k)).trans (mem0_pt hA r k)
    generalize hH : View.readCov (Val := Elt Ideal) (View.whole cc0_scratch2) _ (Rect.unit ![0, 0] ![512, 1024] inb_S512x1024_S512x1024_0_0).toLoadRect = H
    have hH' := fun r k => (congrFun hH.symm (ix2 r k)).trans (whole_ld _ (h1_pt hM) r k)
    generalize hhb : k0_pay20 (F := Ideal) H _ = HB
    have hHB := fun r k => (congrFun hhb.symm (ix2 r k)).trans (hn_pt hH' r k)
    exact left_at (pos_val t) (a_pt0 hHB) (a_pt1 hHB) (a_pt2 hHB) (a_pt3 hHB) _ _ _ i k hi

set_option maxHeartbeats 2000000 in
/-- The tile of the result at the start of a sequence. -/
theorem out_first (h : t.val % 4 = 0) (r : Fin 512) (k : Fin 1024) :
    (show Vec Ideal S1x512x1024 .f32 from (outsAt0 m c t.val t.isLt).1) (ix3 0 r k) = (args m c).out (seqOf t) (posOf t r) k := by
  rw [outsAt0_A m c t h]
  frame_out
  generalize hmem : k0_pay11 (F := Ideal) _ _ _ _ _ _ _ _ _ = M0
  have hM := fun r k => (congrFun hmem.symm (ix2 r k)).trans (mem0_pt hA r k)
  generalize hH : View.readCov (Val := Elt Ideal) (View.whole cc0_scratch2) _ (Rect.unit ![0, 0] ![512, 1024] inb_S512x1024_S512x1024_0_0).toLoadRect = H
  have hH' := fun r k => (congrFun hH.symm (ix2 r k)).trans (whole_ld _ (h1_pt hM) r k)
  generalize hhb : k0_pay20 (F := Ideal) H _ = HB
  have hHB := fun r k => (congrFun hhb.symm (ix2 r k)).trans (hn_pt hH' r k)
  have hz := zero_rows (A := args m c) (b := seqOf t) (q := t.val % 4) (View.whole cc0_scratch0) (View.whole cc0_scratch0).junk (L := [])
    (Z := k0_pay21 (F := Ideal)) (fun i c => by pointwise [k0_pay21]) (h := inb_S520x1024_S8x1024_0_0) h
  have a0 := a_pt0 hHB
  have a1 := a_pt1 hHB
  have a2 := a_pt2 hHB
  have a3 := a_pt3 hHB
  generalize hY : View.readCov (Val := Elt Ideal) (View.whole cc0_scratch1) _ (Rect.unit ![0, 0] ![512, 1280] inb_S512x1280_S512x1280_0_0).toLoadRect = Y
  have hY' : ∀ r k, Y (ix2 r k) = (args m c).y1 (seqOf t) (posOf t r) k := fun r k => (congrFun hY.symm (ix2 r k)).trans
    ((readCov_at (R := 512) (C := 1280) (φ := .bf16) _ _ _ r k r k (Nat.zero_add _).symm (Nat.zero_add _).symm).trans (chunks5
      (y1_pt0 hHB (fun r x => shift_at (pos_val t) _ _ hz a0 rfl (by omega) r x)
        (fun r x => shift_at (pos_val t) _ _ hz a0 rfl (by omega) r x))
      (y1_pt1 hHB (fun r x => shift_at (pos_val t) _ _ (keep_rows _ _ hz) a1 rfl (by omega) r x)
        (fun r x => shift_at (pos_val t) _ _ (keep_rows _ _ hz) a1 rfl (by omega) r x))
      (y1_pt2 hHB (fun r x => shift_at (pos_val t) _ _ (keep_rows _ _ (keep_rows _ _ hz)) a2 rfl (by omega) r x)
        (fun r x => shift_at (pos_val t) _ _ (keep_rows _ _ (keep_rows _ _ hz)) a2 rfl (by omega) r x))
      (y1_pt3 hHB (fun r x => shift_at (pos_val t) _ _ (keep_rows _ _ (keep_rows _ _ (keep_rows _ _ hz))) a3 rfl (by omega) r x)
        (fun r x => shift_at (pos_val t) _ _ (keep_rows _ _ (keep_rows _ _ (keep_rows _ _ hz))) a3 rfl (by omega) r x))
      (mem1_pt hHB hA) r k))
  exact last_pt hY' (fun r x => chunk_ld _ (h1_pt hM) rfl r x) (fun r x => chunk_ld _ (h1_pt hM) rfl r x)
    (fun r x => chunk_ld _ (h1_pt hM) rfl r x) (fun r x => chunk_ld _ (h1_pt hM) rfl r x) _ r k

/-- Within a sequence the first eight rows are what the point before left. -/
theorem kept_rows (h : ¬ t.val % 4 = 0) (i : Fin 520) (k : Fin 1024) (hi : i.val < 8) :
    (View.whole cc0_scratch0).read (Elt Ideal) ((View.whole cc0_scratch0).writes (Elt Ideal) ((Memref.isWhole_whole cc0_scratch0).unread
      (outsAt0 m c (t.val - 1) (lt_of_le_of_lt (Nat.sub_le _ _) t.isLt)).2) []) (ix2 i k) = (args m c).aPad (seqOf t) (512 * (t.val % 4) + i.val) k := by
  refine (congrFun ((Memref.isWhole_whole cc0_scratch0).read_unread _) (ix2 i k)).trans ?_
  refine (left_pt hA ⟨t.val - 1, lt_of_le_of_lt (Nat.sub_le _ _) t.isLt⟩ i k hi).trans ?_
  have e1 : seqOf ⟨t.val - 1, lt_of_le_of_lt (Nat.sub_le _ _) t.isLt⟩ = seqOf t := Fin.ext (by simp only [seqOf]; omega)
  rw [e1, show (t.val - 1) % 4 + 1 = t.val % 4 by omega]

set_option maxHeartbeats 2000000 in
/-- The tile of the result within a sequence. -/
theorem out_next (h : ¬ t.val % 4 = 0) (r : Fin 512) (k : Fin 1024) :
    (show Vec Ideal S1x512x1024 .f32 from (outsAt0 m c t.val t.isLt).1) (ix3 0 r k) = (args m c).out (seqOf t) (posOf t r) k := by
  rw [outsAt0_B m c t h]
  frame_out
  generalize hmem : k0_pay11 (F := Ideal) _ _ _ _ _ _ _ _ _ = M0
  have hM := fun r k => (congrFun hmem.symm (ix2 r k)).trans (mem0_pt hA r k)
  generalize hH : View.readCov (Val := Elt Ideal) (View.whole cc0_scratch2) _ (Rect.unit ![0, 0] ![512, 1024] inb_S512x1024_S512x1024_0_0).toLoadRect = H
  have hH' := fun r k => (congrFun hH.symm (ix2 r k)).trans (whole_ld _ (h1_pt hM) r k)
  generalize hhb : k0_pay20 (F := Ideal) H _ = HB
  have hHB := fun r k => (congrFun hhb.symm (ix2 r k)).trans (hn_pt hH' r k)
  have hz := kept_rows hA t h
  have a0 := a_pt0 hHB
  have a1 := a_pt1 hHB
  have a2 := a_pt2 hHB
  have a3 := a_pt3 hHB
  generalize hY : View.readCov (Val := Elt Ideal) (View.whole cc0_scratch1) _ (Rect.unit ![0, 0] ![512, 1280] inb_S512x1280_S512x1280_0_0).toLoadRect = Y
  have hY' : ∀ r k, Y (ix2 r k) = (args m c).y1 (seqOf t) (posOf t r) k := fun r k => (congrFun hY.symm (ix2 r k)).trans
    ((readCov_at (R := 512) (C := 1280) (φ := .bf16) _ _ _ r k r k (Nat.zero_add _).symm (Nat.zero_add _).symm).trans (chunks5
      (y1_pt0 hHB (fun r x => shift_at (pos_val t) _ _ hz a0 rfl (by omega) r x)
        (fun r x => shift_at (pos_val t) _ _ hz a0 rfl (by omega) r x))
      (y1_pt1 hHB (fun r x => shift_at (pos_val t) _ _ (keep_rows _ _ hz) a1 rfl (by omega) r x)
        (fun r x => shift_at (pos_val t) _ _ (keep_rows _ _ hz) a1 rfl (by omega) r x))
      (y1_pt2 hHB (fun r x => shift_at (pos_val t) _ _ (keep_rows _ _ (keep_rows _ _ hz)) a2 rfl (by omega) r x)
        (fun r x => shift_at (pos_val t) _ _ (keep_rows _ _ (keep_rows _ _ hz)) a2 rfl (by omega) r x))
      (y1_pt3 hHB (fun r x => shift_at (pos_val t) _ _ (keep_rows _ _ (keep_rows _ _ (keep_rows _ _ hz))) a3 rfl (by omega) r x)
        (fun r x => shift_at (pos_val t) _ _ (keep_rows _ _ (keep_rows _ _ (keep_rows _ _ hz))) a3 rfl (by omega) r x))
      (mem1_pt hHB hA) r k))
  exact last_pt hY' (fun r x => chunk_ld _ (h1_pt hM) rfl r x) (fun r x => chunk_ld _ (h1_pt hM) rfl r x)
    (fun r x => chunk_ld _ (h1_pt hM) rfl r x) (fun r x => chunk_ld _ (h1_pt hM) rfl r x) _ r k

/-- A point's tile of the result. -/
theorem out_pt (r : Fin 512) (k : Fin 1024) :
    (show Vec Ideal S1x512x1024 .f32 from (outsAt0 m c t.val t.isLt).1) (ix3 0 r k) = (args m c).out (seqOf t) (posOf t r) k :=
  if h : t.val % 4 = 0 then out_first hA t h r k else out_next hA t h r k

end Cert.TailIdeal
end
-- ==== Proof.Final.lean ====
module
public import proofs.«01_k».proof.Proof.Cases
@[expose] public section
set_option maxRecDepth 16384

/-! # The kernel's result array -/

noncomputable section
namespace Cert.TailIdeal
open Idealize.ShloMosaic Idealize.ShloMosaic.TcCoe Idealize.SL.Sem
open Cert.TailIdeal.Gen Cert.Reals Cert.Spec

variable {m : (ℓ : Loc nD τ sig) → Buf (Elt Ideal) ℓ} {c : Dev nD} (hA : (args m c).Real)
include hA

/-- The tile of a point at any index of the block. -/
theorem tile_at (t : Fin cfg0.N) (y : S1x512x1024.Idx) {b : Fin 8} {s : Fin 2048} {k : Fin 1024} (hb : b.val = t.val / 4)
    (hs : s.val = 512 * (t.val % 4) + (y 1).val) (hk : k.val = (y 2).val) :
    (show Vec Ideal S1x512x1024 .f32 from (outsAt0 m c t.val t.isLt).1) y = (args m c).out b s k := by
  obtain rfl : b = seqOf t := Fin.ext hb
  obtain rfl : s = posOf t (y 1) := Fin.ext hs
  obtain rfl : k = y 2 := Fin.ext hk
  refine Eq.trans (congrArg _ (funext fun a => ?_)) (out_pt hA t (y 1) (y 2))
  fin_cases a
  · exact Subsingleton.elim (α := Fin 1) _ _
  · rfl
  · rfl

/-- The kernel's result array, entry by entry. -/
theorem result_eq : Value.G12 m c = fun i : S8x2048x1024.Idx => (args m c).out (i 0) (i 1) (i 2) := by
  rw [← Value.final12]
  refine (dats m 0 c).arrAt_eq_of_cover 12 _ (fun t hf => ?_) (fun i => (Value.covered_iff12 i).2 ?_)
  · rw [Value.flushed12]
    funext y
    have e := (idx t).2.2.2.2.2.2.2.2.2.2.2.2
    have e0 : win0_12.index t (0 : Fin 3) = t.val / 4 := congrFun e 0
    have e1 : win0_12.index t (1 : Fin 3) = t.val % 4 := congrFun e 1
    have e2 : win0_12.index t (2 : Fin 3) = 0 := congrFun e 2
    have b0 : (((cfg0.win 12).blk t).view.emb y 0).val = win0_12.index t (0 : Fin 3) * 1 + 1 * (y 0).val := rfl
    have b1 : (((cfg0.win 12).blk t).view.emb y 1).val = win0_12.index t (1 : Fin 3) * 512 + 1 * (y 1).val := rfl
    have b2 : (((cfg0.win 12).blk t).view.emb y 2).val = win0_12.index t (2 : Fin 3) * 1024 + 1 * (y 2).val := rfl
    have hy0 : (y 0).val < 1 := (y 0).isLt
    refine tile_at hA t ((cfg0.win 12).xinj (grid0.coords t) y) (b0.trans (by omega)) (b1.trans ?_) (b2.trans ?_)
    · show _ = 512 * (t.val % 4) + (y 1).val
      omega
    · show _ = (y 2).val
      omega
  · have h0 : (i 0).val < 8 := (i 0).isLt
    have h1 : (i 1).val < 2048 := (i 1).isLt
    have h2 : (i 2).val < 1024 := (i 2).isLt
    omega

end Cert.TailIdeal
end
-- ==== Proof.Pre.lean ====
module
public import proofs.«01_k».proof.Defs
public import proofs.«01_k».proof.Proof.Blocks
@[expose] public section
set_option maxRecDepth 16384

/-! # The precondition: what its masks say of the arguments -/

noncomputable section
namespace Cert.TailIdeal
open Idealize.ShloMosaic Idealize.ShloMosaic.TcCoe Idealize.SL.Sem
open Cert.TailIdeal.Gen Cert.Reals Cert.Spec

/-- The side conditions of the precondition's text. -/
theorem preFacts : Cert.Pre_finite_attention_inputs.Facts where
  slices_S2x8x256x512_S2x8x256x256_0_0_0_0 := by decide
  slices_S2x1024_S1x1024_1_0 := by decide
  shapeCasts_S1x1024_S1024 := by decide
  shapeCasts_S1x1024x4608_S1024x4608 := by decide
  slices_S1024x4608_S1024x256_0_3072 := by decide
  bitsLt_bf16_f32 := by decide
  bcast_S_S8x2048x256 := by decide
  bcast_S_S2x8x256x256 := by decide
  bcast_S_S1024 := by decide
  bcast_S_S1024x256 := by decide

/-- An entry whose magnitude compares below +∞ is real. -/
theorem isReal_of_lt {x : EReal} (h : BitVec.ofBool (decide (FloatOps.absf (F := Ideal) (φ := .f32) x < Ideal.ofBits .f32 0x7F800000#32)) = 1#1) :
    IsReal x := by
  have h : FloatOps.absf (F := Ideal) (φ := .f32) x < Ideal.ofBits .f32 0x7F800000#32 := by
    by_contra hn
    rw [decide_eq_false hn] at h
    exact absurd h (by decide)
  have e : Ideal.ofBits .f32 0x7F800000#32 = ⊤ := by simp [Ideal.ofBits, Ideal.ieee]
  rw [e] at h
  have h : max x (-x) < ⊤ := h
  refine (isReal_iff x).mpr ⟨fun hb => ?_, fun ht => ?_⟩
  · simp [hb] at h
  · simp [ht] at h

variable (m : (ℓ : Loc nD τ sig) → Buf (Elt Ideal) ℓ)

/-- Under the precondition the arguments are as asked. -/
theorem real_of_pre [hP : Cert.Pre_finite_attention_inputs.Facts] (h : Cert.Pre_TailIdeal_finite_attention_inputs m) (c : Dev nD) : (args m c).Real := by
  obtain ⟨hq, hk, hg, hw⟩ := h c
  simp only [Cert.Pre_finite_attention_inputs.fn] at hq hk hg hw
  constructor
  · intro b s k
    have e := congrFun hq (ix3 b s k)
    revert e
    pointwise
    exact isReal_of_lt
  · intro i b j k
    have e := congrFun hk (ix4 i b j k)
    revert e
    pointwise
    exact isReal_of_lt
  · intro k
    have e := congrFun hg (ix1 k)
    revert e
    pointwise
    exact isReal_of_lt
  · intro i k
    have e := congrFun hw (ix2 i k)
    revert e
    pointwise
    exact isReal_of_lt

end Cert.TailIdeal
end
-- ==== Proof.KvSpec.lean ====
module
public import proofs.«01_k».proof.Proof.Reals
@[expose] public section

/-! # The keys and values of the memory tokens, on coordinates -/

noncomputable section
namespace Cert.KvSpec
open Idealize.ShloMosaic Cert.Reals

/-- The argument arrays by coordinates: the memory tokens, each layer's gain of their norm, each layer's weights. -/
structure Args where
  x : Fin 8 → Fin 256 → Fin 1024 → EReal
  g : Fin 2 → Fin 1024 → EReal
  w : Fin 2 → Fin 1024 → Fin 512 → EReal

/-- Column `j` of layer `l`'s keys and values of token `s` in batch entry `b`. -/
def Args.kv (A : Args) (l : Fin 2) (b : Fin 8) (s : Fin 256) (j : Fin 512) : EReal := ∑ i, norm (A.x b s) (A.g l) i * A.w l i j

end Cert.KvSpec
end
-- ==== Proof.KvFinal.lean ====
module
public import proofs.«01_k».proof.Proof.Gen.MemKvIdeal.Value
public import proofs.«01_k».proof.Proof.KvSpec
public import Idealize.ShloMosaic.Lib.Pointwise
public import Idealize.ShloMosaic.Lib.Pipeline.ValueKit
@[expose] public section
set_option maxRecDepth 16384

/-! # The kernel of the memory tokens' keys and values

Point `t` of the grid holds batch entry `t % 8` of layer `t / 8`. -/

noncomputable section
namespace Cert.MemKvIdeal
open Idealize.ShloMosaic Idealize.ShloMosaic.TcCoe Idealize.SL.Sem
open Cert.MemKvIdeal.Gen Cert.Reals Cert.KvSpec

variable (m : (ℓ : Loc nD τ sig) → Buf (Elt Ideal) ℓ)

/-- The kernel's arguments by coordinates. -/
def args (c : Dev nD) : Args where
  x b s k := (show FVec Ideal S8x256x1024 .f32 from m ((c : Thread nD τ).loc main_arg0)) (ix3 b s k)
  g l k := (show FVec Ideal S2x1024 .f32 from m ((c : Thread nD τ).loc main_arg1)) (ix2 l k)
  w l i k := (show FVec Ideal S2x1024x512 .f32 from m ((c : Thread nD τ).loc main_arg2)) (ix3 l i k)

/-- The layer of a grid point. -/
def layerOf (t : Fin cfg0.N) : Fin 2 := ⟨t.val / 8, by have := lt_of_lt_of_eq t.isLt N_0; omega⟩

/-- The batch entry of a grid point. -/
def entryOf (t : Fin cfg0.N) : Fin 8 := ⟨t.val % 8, by omega⟩

/-- The block indices of the windows over the grid. -/
theorem idx : ∀ t : Fin cfg0.N,
    win0_0.index t = ![t.val % 8, 0, 0] ∧ win0_1.index t = ![t.val / 8, 0, 0] ∧ win0_2.index t = ![t.val / 8, 0, 0]
    ∧ win0_3.index t = ![t.val / 8, t.val % 8, 0, 0] :=
  (by decide +kernel : ∀ t : Fin grid0.N, _)

/-- What the kernel writes, from a tile, a gain and the weights. -/
theorem pay1_at (x0 : Vec Ideal S1x256x1024 .f32) (x1 : Vec Ideal S1x1x1024 .f32) (x2 : Vec Ideal S1x1024x512 .bf16) (s : Fin 256) (j : Fin 512) :
    k0_pay1 x0 x1 x2 (ix4 0 0 s j) = ∑ i, norm (fun k => x0 (ix3 0 s k)) (fun k => x1 (ix3 0 0 k)) i * x2 (ix3 0 i j) := by
  pointwise [k0_pay1]
  rfl

variable (c : Dev nD) (t : Fin cfg0.N)

theorem blk0_at (s : Fin 256) (k : Fin 1024) :
    (show Vec Ideal S1x256x1024 .f32 from iblk m c 0 t) (ix3 0 s k) = (args m c).x (entryOf t) s k := by
  unfold args entryOf
  blk_point [iblk, V, idx t]

theorem blk1_at (k : Fin 1024) :
    (show Vec Ideal S1x1x1024 .f32 from iblk m c 1 t) (ix3 0 0 k) = (args m c).g (layerOf t) k := by
  unfold args layerOf
  blk_simp [iblk]
  entry_read
  pointwise
  blk_ext [idx t]

theorem blk2_at (i : Fin 1024) (j : Fin 512) :
    (show Vec Ideal S1x1024x512 .bf16 from iblk m c 2 t) (ix3 0 i j) = (args m c).w (layerOf t) i j := by
  unfold args layerOf
  blk_simp [iblk]
  entry_read
  pointwise
  blk_ext [idx t]

/-- The block that a grid point writes. -/
theorem out3_at (s : Fin 256) (j : Fin 512) :
    out0_3 (F := Ideal) (iblk m c 0 t) (iblk m c 1 t) (iblk m c 2 t) (ix4 0 0 s j) = (args m c).kv (layerOf t) (entryOf t) s j := by
  unfold out0_3
  rw [View.canon_cons_unit_lit _ _ _ (by decide), View.ld_unit_lit _ _ (by decide), View.ld_unit_lit _ _ (by decide), View.ld_unit_lit _ _ (by decide)]
  refine (pay1_at _ _ _ s j).trans (Finset.sum_congr rfl fun i _ => ?_)
  exact congrArg₂ (· * ·) (congrArg₂ (fun f g => norm f g i) (funext fun k => blk0_at m c t s k) (funext fun k => blk1_at m c t k)) (blk2_at m c t i j)

theorem exists_ix4 {a b : ℕ} (x : (⟨4, ![1, 1, a, b]⟩ : Shape).Idx) : ∃ r j, x = ix4 0 0 r j := by
  refine ⟨x 2, x 3, funext fun i => ?_⟩
  fin_cases i
  · exact Subsingleton.elim (α := Fin 1) _ _
  · exact Subsingleton.elim (α := Fin 1) _ _
  · rfl
  · rfl

/-- The kernel's array. -/
theorem result3 : (dats m 0 c).arrAt 3 cfg0.N = fun i : S2x8x256x512.Idx => (args m c).kv (i 0) (i 1) (i 2) (i 3) := by
  refine (dats m 0 c).arrAt_eq_of_covers 3 _ (by decide +kernel) fun t hf y => ?_
  blk_simp
  rw [after0_3]
  obtain ⟨s, j, rfl⟩ := exists_ix4 (a := 256) (b := 512) y
  refine (out3_at m c t s j).trans ?_
  have b0 : ((((cfg0.win 3).blk t).view.emb (ix4 0 0 s j) 0 : Fin 2) : ℕ) = t.val / 8 := by
    blk_simp [idx t]
    rfl
  have b1 : ((((cfg0.win 3).blk t).view.emb (ix4 0 0 s j) 1 : Fin 8) : ℕ) = t.val % 8 := by
    blk_simp [idx t]
    rfl
  have b2 : ((((cfg0.win 3).blk t).view.emb (ix4 0 0 s j) 2 : Fin 256) : ℕ) = s.val := by blk_simp [idx t]
  have b3 : ((((cfg0.win 3).blk t).view.emb (ix4 0 0 s j) 3 : Fin 512) : ℕ) = j.val := by blk_simp [idx t]
  have a0 : layerOf t = ((cfg0.win 3).blk t).view.emb (ix4 0 0 s j) 0 := Fin.ext b0.symm
  have a1 : entryOf t = ((cfg0.win 3).blk t).view.emb (ix4 0 0 s j) 1 := Fin.ext b1.symm
  have a2 : s = ((cfg0.win 3).blk t).view.emb (ix4 0 0 s j) 2 := Fin.ext b2.symm
  have a3 : j = ((cfg0.win 3).blk t).view.emb (ix4 0 0 s j) 3 := Fin.ext b3.symm
  exact (congrArg₂ (fun l b => (args m c).kv l b s j) a0 a1).trans (congrArg₂ ((args m c).kv _ _) a2 a3)

end Cert.MemKvIdeal
end
-- ==== Proof.KvReference.lean ====
module
public import proofs.«01_k».proof.Proof.Gen.MemKvRefIdeal.Run
public import proofs.«01_k».proof.Proof.KvSpec
public import Idealize.ShloMosaic.Lib.Pointwise
@[expose] public section
set_option maxRecDepth 16384

/-! # The reference of the memory tokens' keys and values -/

noncomputable section
namespace Cert.MemKvRefIdeal
open Idealize.ShloMosaic Idealize.ShloMosaic.TcCoe Idealize.SL.Sem
open Cert.MemKvRefIdeal.Gen Cert.MemKvRefIdeal.Value Cert.Reals Cert.KvSpec

variable (m : (ℓ : Loc nD τ sig) → Buf (Elt Ideal) ℓ) (ρ : Dev nD → PrngReg)

/-- The reference's arguments by coordinates. -/
def args (c : Dev nD) : Args where
  x b s k := (show FVec Ideal S8x256x1024 .f32 from m ((c.tc : Thread nD τ).loc main_arg0)) (ix3 b s k)
  g l k := (show FVec Ideal S2x1024 .f32 from m ((c.tc : Thread nD τ).loc main_arg1)) (ix2 l k)
  w l i k := (show FVec Ideal S2x1024x512 .f32 from m ((c.tc : Thread nD τ).loc main_arg2)) (ix3 l i k)

/-- One layer's product, from its gain and its weights. -/
def layer (x : FVec Ideal S8x256x1024 .f32) (g : FVec Ideal S1024 .f32) (w : FVec Ideal S1024x512 .f32) : FVec Ideal S8x256x512 .f32 :=
   Host.dotGeneral dot_S8x256x1024_S1024x512_S8x256x512_2_0_01_1_n_n none (mulf (mulf x (broadcastInDim S8x256x1024 ![0, 1, 2]
     bcast_S8x256x1_S8x256x1024_0_1_2 (Host.rsqrt (addf (Host.divf (broadcastInDim S8x256x1 ![0, 1] bcast_S8x256_S8x256x1_0_1 (Host.reduceAdd (mulf x
     x) (constant S_ .f32 0x00000000#32) reducesTo_S8x256x1024_S8x256_d2 h_S_)) (broadcastInDim S8x256x1 ![] bcast_S_S8x256x1 (constant S_ .f32
     0x44800000#32))) (broadcastInDim S8x256x1 ![] bcast_S_S8x256x1 (constant S_ .f32 0x358637BD#32)))))) (broadcastInDim S8x256x1024 ![0, 1, 2]
     bcast_S1x1x1024_S8x256x1024_0_1_2 (broadcastInDim S1x1x1024 ![2] bcast_S1024_S1x1x1024_2 g))) w

theorem layer_at (x : FVec Ideal S8x256x1024 .f32) (g : FVec Ideal S1024 .f32) (w : FVec Ideal S1024x512 .f32) (b : Fin 8) (s : Fin 256)
    (j : Fin 512) : layer x g w (ix3 b s j) = ∑ i, norm (fun k => x (ix3 b s k)) (fun k => g (ix1 k)) i * w (ix2 i j) := by
  pointwise [layer]
  rfl

/-- The gains of the two layers. -/
def gain0 (g : FVec Ideal S2x1024 .f32) : FVec Ideal S1024 .f32 :=
  shapeCast _ (extractStridedSlice S1x1024 ![0, 0] g slices_S2x1024_S1x1024_0_0) shapeCasts_S1x1024_S1024

@[inherit_doc gain0]
def gain1 (g : FVec Ideal S2x1024 .f32) : FVec Ideal S1024 .f32 :=
  shapeCast _ (extractStridedSlice S1x1024 ![1, 0] g slices_S2x1024_S1x1024_1_0) shapeCasts_S1x1024_S1024

/-- The weights of the two layers. -/
def weight0 (w : FVec Ideal S2x1024x512 .f32) : FVec Ideal S1024x512 .f32 :=
  shapeCast _ (extractStridedSlice S1x1024x512 ![0, 0, 0] w slices_S2x1024x512_S1x1024x512_0_0_0) shapeCasts_S1x1024x512_S1024x512

@[inherit_doc weight0]
def weight1 (w : FVec Ideal S2x1024x512 .f32) : FVec Ideal S1024x512 .f32 :=
  shapeCast _ (extractStridedSlice S1x1024x512 ![1, 0, 0] w slices_S2x1024x512_S1x1024x512_1_0_0) shapeCasts_S1x1024x512_S1024x512

theorem gain0_at (g : FVec Ideal S2x1024 .f32) (k : Fin 1024) : gain0 g (ix1 k) = g (ix2 0 k) := by
  pointwise [gain0]

theorem gain1_at (g : FVec Ideal S2x1024 .f32) (k : Fin 1024) : gain1 g (ix1 k) = g (ix2 1 k) := by
  pointwise [gain1]

theorem weight0_at (w : FVec Ideal S2x1024x512 .f32) (i : Fin 1024) (j : Fin 512) : weight0 w (ix2 i j) = w (ix3 0 i j) := by
  pointwise [weight0]

theorem weight1_at (w : FVec Ideal S2x1024x512 .f32) (i : Fin 1024) (j : Fin 512) : weight1 w (ix2 i j) = w (ix3 1 i j) := by
  pointwise [weight1]

/-- The two layers' arrays, one after the other. -/
def stacked (E E' : FVec Ideal S8x256x512 .f32) : FVec Ideal S2x8x256x512 .bf16 :=
  truncf .bf16 (concatenate S2x8x256x512 0 [⟨S1x8x256x512, (broadcastInDim S1x8x256x512 ![1, 2, 3] bcast_S8x256x512_S1x8x256x512_1_2_3 E)⟩,
    ⟨S1x8x256x512, (broadcastInDim S1x8x256x512 ![1, 2, 3] bcast_S8x256x512_S1x8x256x512_1_2_3 E')⟩]
    concatenates_S1x8x256x512_S1x8x256x512_S2x8x256x512_d0) bitsLt_bf16_f32

theorem stacked_at (E E' : FVec Ideal S8x256x512 .f32) (l : Fin 2) (b : Fin 8) (s : Fin 256) (j : Fin 512) :
    stacked E E' (ix4 l b s j) = if l.val < 1 then E (ix3 b s j) else E' (ix3 b s j) := by
  pointwise [stacked]
  rfl

theorem eq_ix4 {a b c d : ℕ} (i : (⟨4, ![a, b, c, d]⟩ : Shape).Idx) : i = ix4 (i 0) (i 1) (i 2) (i 3) := by
  funext x; fin_cases x <;> rfl

/-- The two layers are the entries asked for. -/
theorem stacked_eq (c : Dev nD) (l : Fin 2) (b : Fin 8) (s : Fin 256) (j : Fin 512) :
    stacked (layer (m ((c.tc : Thread nD τ).loc main_arg0)) (gain0 (m ((c.tc : Thread nD τ).loc main_arg1))) (weight0 (m ((c.tc : Thread nD τ).loc main_arg2))))
      (layer (m ((c.tc : Thread nD τ).loc main_arg0)) (gain1 (m ((c.tc : Thread nD τ).loc main_arg1))) (weight1 (m ((c.tc : Thread nD τ).loc main_arg2))))
      (ix4 l b s j) = (args m c).kv l b s j := by
  rw [stacked_at]
  by_cases h : l.val < 1
  · obtain rfl : l = 0 := Fin.ext (by omega)
    rw [if_pos h, layer_at]
    simp only [gain0_at, weight0_at]
    rfl
  · obtain rfl : l = 1 := Fin.ext (by omega)
    rw [if_neg h, layer_at]
    simp only [gain1_at, weight1_at]
    rfl

/-- The reference's result, entry by entry. -/
theorem result : θ_run defs (onTc (τ := τ) (main (F := Ideal))) ⟨m, fun _ => 0, ρ⟩ fun r => ∀ c : Dev nD,
      r.2.mem ((c.tc : Thread nD τ).loc main_v39) = (fun i : S2x8x256x512.Idx => (args m c).kv (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  exact funext fun i => (congrArg _ (eq_ix4 i)).trans (stacked_eq m c (i 0) (i 1) (i 2) (i 3))

end Cert.MemKvRefIdeal
end
-- ==== Proof.ProjSpec.lean ====
module
public import proofs.«01_k».proof.Proof.Reals
@[expose] public section

/-! # Layer 0's memory queries and gate, on coordinates -/

noncomputable section
namespace Cert.ProjSpec
open Idealize.ShloMosaic Cert.Reals

/-- The argument arrays by coordinates: the input, the norm's gain and the projection's weights. -/
structure Args where
  x : Fin 8 → Fin 2048 → Fin 1024 → EReal
  g : Fin 1024 → EReal
  w : Fin 1024 → Fin 5632 → EReal

namespace Args
variable (A : Args)

/-- The normalised input. -/
def hn (b : Fin 8) (s : Fin 2048) (i : Fin 1024) : EReal := norm (A.x b s) A.g i

/-- The projection. -/
def p (b : Fin 8) (s : Fin 2048) (k : Fin 5632) : EReal := ∑ i, A.hn b s i * A.w i k

/-- The memory queries, scaled. -/
def qm (b : Fin 8) (s : Fin 2048) (j : Fin 256) : EReal := A.p b s ⟨4608 + j.val, by omega⟩ * ((1 / 8 : ℝ) : EReal)

/-- The gate. -/
def z (b : Fin 8) (s : Fin 2048) (j : Fin 768) : EReal := A.p b s ⟨4864 + j.val, by omega⟩

end Args
end Cert.ProjSpec
end
-- ==== Proof.ProjForms.lean ====
module
public import proofs.«01_k».proof.Proof.Gen.ProjIdeal.Skeleton
public import proofs.«01_k».proof.Proof.ProjSpec
public import Idealize.ShloMosaic.Lib.Pointwise
public import Idealize.ShloMosaic.Lib.Pipeline.ValueKit
@[expose] public section
set_option maxRecDepth 16384

/-! # What the projection kernel writes for the memory queries and the gate, from a tile and a chunk of the weights -/

noncomputable section
namespace Cert.ProjIdeal
open Idealize.ShloMosaic Idealize.ShloMosaic.TcCoe Idealize.SL.Sem
open Cert.ProjIdeal.Gen Cert.Reals Cert.ProjSpec

/-- The normalised tile. -/
theorem pay4_at (x0 : Vec Ideal S1x512x1024 .f32) (x1 : Vec Ideal S1x1024 .f32) (r : Fin 512) (i : Fin 1024) :
    k0_pay4 x0 x1 (ix2 r i) = norm (fun k => x0 (ix3 0 r k)) (fun k => x1 (ix2 0 k)) i := by
  pointwise [k0_pay4]
  rfl

section Entries
variable (L : FVec Ideal S512x1024 .bf16) (w : Vec Ideal S1024x256 .bf16) (r : Fin 512) (y : Fin 256)

theorem pay25_at : k0_pay25 L w (ix3 0 r y) = ∑ i, L (ix2 r i) * w (ix2 i y) := by
  pointwise [k0_pay25]

theorem pay26_at : k0_pay26 L w (ix3 0 r y) = ∑ i, L (ix2 r i) * w (ix2 i y) := by
  pointwise [k0_pay26]

theorem pay27_at : k0_pay27 L w (ix3 0 r y) = ∑ i, L (ix2 r i) * w (ix2 i y) := by
  pointwise [k0_pay27]

theorem pay28_at : k0_pay28 L w (ix3 0 r y) = ∑ i, L (ix2 r i) * w (ix2 i y) := by
  pointwise [k0_pay28]

end Entries
end Cert.ProjIdeal
end
-- ==== Proof.ProjBlocks.lean ====
module
public import proofs.«01_k».proof.Proof.Gen.ProjIdeal.Value
public import proofs.«01_k».proof.Proof.ProjForms
@[expose] public section
set_option maxRecDepth 16384

/-! # The blocks that a grid point of the projection reads, entry by entry

Point `t` of the grid holds rows `512 * (t % 4) ..` of sequence `t / 4`. The host code reorders the columns of the
weights and scales some of them. -/

noncomputable section
namespace Cert.ProjIdeal
open Idealize.ShloMosaic Idealize.ShloMosaic.TcCoe Idealize.SL.Sem
open Cert.ProjIdeal.Gen Cert.Reals Cert.ProjSpec

variable (m : (ℓ : Loc nD τ sig) → Buf (Elt Ideal) ℓ)

/-- The kernel's arguments by coordinates. -/
def args (c : Dev nD) : Args where
  x b s k := (show FVec Ideal S8x2048x1024 .f32 from m ((c : Thread nD τ).loc main_arg0)) (ix3 b s k)
  g k := (show FVec Ideal S2x1024 .f32 from m ((c : Thread nD τ).loc main_arg3)) (ix2 0 k)
  w i k := (show FVec Ideal S1x1024x5632 .f32 from m ((c : Thread nD τ).loc main_arg4)) (ix3 0 i k)

/-- The sequence of a grid point. -/
def seqOf (t : Fin cfg0.N) : Fin 8 := ⟨t.val / 4, by have := lt_of_lt_of_eq t.isLt N_0; omega⟩

/-- The position of row `r` of a grid point's tile. -/
def posOf (t : Fin cfg0.N) (r : Fin 512) : Fin 2048 := ⟨512 * (t.val % 4) + r.val, by omega⟩

/-- The block indices of the windows over the grid. -/
theorem idx : ∀ t : Fin cfg0.N,
    win0_0.index t = ![t.val / 4, t.val % 4, 0] ∧ win0_1.index t = ![0, 0] ∧ win0_4.index t = ![0, 0]
    ∧ win0_6.index t = ![t.val / 4, t.val % 4, 0] ∧ win0_7.index t = ![t.val / 4, t.val % 4, 0] :=
  (by decide +kernel : ∀ t : Fin grid0.N, _)

variable (c : Dev nD) (t : Fin cfg0.N)

theorem blk0_at (r : Fin 512) (k : Fin 1024) :
    (show Vec Ideal S1x512x1024 .f32 from iblk m c 0 t) (ix3 0 r k) = (args m c).x (seqOf t) (posOf t r) k := by
  unfold args seqOf posOf
  blk_point [iblk, V, idx t]

theorem blk1_at (k : Fin 1024) :
    (show Vec Ideal S1x1024 .f32 from iblk m c 1 t) (ix2 0 k) = (args m c).g k := by
  unfold args
  blk_simp [iblk]
  entry_read
  pointwise
  blk_ext [idx t]

/-- Where the memory queries' and the gate's columns come from. -/
theorem source_at : ∀ k : Fin 5632, 1536 ≤ k.val ∧ k.val < 2560 → min (lit0 k).toInt.toNat 5631 = k.val + 3072 := by
  decide +kernel

/-- The scale of those columns: 1/8 on the memory queries, 1 on the gate. -/
theorem scale_at : ∀ k : Fin 5632, 1536 ≤ k.val ∧ k.val < 2560 → lit1 k = if k.val < 1792 then 0x3E000000#32 else 0x3F800000#32 := by
  decide +kernel

/-- The f32 pattern of 1. -/
theorem ofBits_one : Ideal.ofBits .f32 0x3F800000#32 = 1 := by
  simp [Ideal.ofBits, Ideal.ieee, -EReal.coe_mul]; norm_num

/-- A choice of columns reads, in column `k`, the column that the list of columns names there. -/
theorem gather_at (x : FVec Ideal S1024x5632 .f32) (cols : IVec S5632x1 32) (i : Fin 1024) (k : Fin 5632) :
    Host.gather gather_S1024x5632_S5632x1_S1024x5632_0_1_n_n_1_1_10241 x cols (ix2 i k)
      = x (ix2 i ⟨min (cols (ix2 k 0)).toInt.toNat 5631, by omega⟩) := by
  generalize hd : gather_S1024x5632_S5632x1_S1024x5632_0_1_n_n_1_1_10241 = d
  unfold Host.gather
  congr 1
  funext a
  refine Fin.ext ?_
  show d.start (ix2 i k) cols a + d.batchCoord (ix2 i k) a + d.offCoord (ix2 i k) a = _
  subst hd
  rw [GatherDims.batchCoord_eq_zero _ _ _ List.not_mem_nil]
  fin_cases a
  · unfold GatherDims.start
    rw [dif_neg (by decide)]
    simp only [Nat.zero_add]
    rfl
  · rw [GatherDims.offCoord_eq_zero _ _ _ (by decide)]
    unfold GatherDims.start
    rw [dif_pos (by decide)]
    simp only [Nat.add_zero]
    refine congrArg (fun v : S5632x1.Idx => min (cols v).toInt.toNat 5631) ?_
    funext b
    fin_cases b <;> rfl

/-- The list of columns, as the choice reads it. -/
theorem cols_at (k : Fin 5632) (y : IVec S5632 32) :
    broadcastInDim S5632x1 ![0] bcast_S5632_S5632x1_0 (select (constantI S5632 1 0#1) y fun i => lit0 (S5632.rowMajor i)) (ix2 k 0) = lit0 k := by
  have e : S5632.rowMajor (ix1 k) = k := Fin.ext (Shape.rowMajor_val_one _)
  pointwise
  exact congrArg lit0 e

theorem blk4_at (i : Fin 1024) (k : Fin 5632) (hk : 1536 ≤ k.val ∧ k.val < 2560) :
    (show Vec Ideal S1024x5632 .bf16 from iblk m c 4 t) (ix2 i k)
      = (args m c).w i ⟨k.val + 3072, by omega⟩ * (if k.val < 1792 then ((1 / 8 : ℝ) : EReal) else 1) := by
  unfold args
  blk_simp [iblk]
  entry_read
  have e0 : ((((View.whole main_v9).slice (win0_4.rect t)).emb (ix2 i k) 0 : Fin 1024) : ℕ) = i.val := by blk_simp [idx t]
  have e1 : ((((View.whole main_v9).slice (win0_4.rect t)).emb (ix2 i k) 1 : Fin 5632) : ℕ) = k.val := by blk_simp [idx t]
  have e : ((View.whole main_v9).slice (win0_4.rect t)).emb (ix2 i k) = (ix2 i k : S1024x5632.Idx) := by
    funext a
    fin_cases a
    · exact Fin.ext e0
    · exact Fin.ext e1
  rw [e]
  pointwise
  refine congrArg₂ (· * ·) ((gather_at _ _ i k).trans ?_) ?_
  · refine congrArg (fun n => (show FVec Ideal S1x1024x5632 .f32 from m ((c : Thread nD τ).loc main_arg4)) (ix3 0 i n)) (Fin.ext ?_)
    refine Eq.trans ?_ (source_at k hk)
    exact congrArg (fun v : BitVec 32 => min v.toInt.toNat 5631) (cols_at k _)
  · have e' : lit1 (S5632.rowMajor (ix1 k)) = lit1 k := congrArg lit1 (Fin.ext (Shape.rowMajor_val_one _))
    rw [e', scale_at k hk]
    split
    · exact ofBits_eighth
    · exact ofBits_one

end Cert.ProjIdeal
end
-- ==== Proof.ProjFinal.lean ====
module
public import proofs.«01_k».proof.Proof.Gen.ProjIdeal.Value
public import proofs.«01_k».proof.Proof.ProjBlocks
public import Idealize.ShloMosaic.Lib.WholeRead
public import Idealize.ShloMosaic.Lib.Pipeline.ReadBack
@[expose] public section
set_option maxRecDepth 16384

/-! # The projection kernel's memory queries and gate, as arrays -/

noncomputable section
namespace Cert.ProjIdeal
open Idealize.ShloMosaic Idealize.ShloMosaic.TcCoe Idealize.SL.Sem
open Cert.ProjIdeal.Gen Cert.Reals Cert.ProjSpec

/-- The normalised tile, as the products read it. -/
theorem r1_at (c : Dev nD) (arg2 : Memref sig .tc .vmem S1x512x1024 .f32) (harg2 : arg2.IsWhole) (arg3 : Memref sig .tc .vmem S1x1024 .f32)
    (harg3 : arg3.IsWhole) (x0 : Vec Ideal S1x512x1024 .f32) (x1 : Vec Ideal S1x1024 .f32) (r : Fin 512) (i : Fin 1024) :
    kernelRun0_A.sl.r_1 (F := Ideal) c arg2 harg2 arg3 harg3 x0 x1 (ix2 r i) = norm (fun k => x0 (ix3 0 r k)) (fun k => x1 (ix2 0 k)) i := by
  unfold kernelRun0_A.sl.r_1
  refine (pay4_at _ _ r i).trans ?_
  have e0 (k : Fin 1024) := harg2.readAt_unread (Val := Elt Ideal) x0 (Rect.unit ![0, 0, 0] S1x512x1024.size inb_S1x512x1024_S1x512x1024_0_0_0).toLoadRect (ix3 0 r k)
  have e1 (k : Fin 1024) := harg3.readAt_unread (Val := Elt Ideal) x1 (Rect.unit ![0, 0] S1x1024.size inb_S1x1024_S1x1024_0_0).toLoadRect (ix2 0 k)
  have d0 (k : Fin 1024) : (Rect.unit ![0, 0, 0] S1x512x1024.size inb_S1x512x1024_S1x512x1024_0_0_0).toLoadRect.idx (ix3 0 r k) = (ix3 0 r k : S1x512x1024.Idx) := by
    funext a
    refine Fin.ext ?_
    fin_cases a <;> exact (Nat.zero_add _).trans (Nat.one_mul _)
  have d1 (k : Fin 1024) : (Rect.unit ![0, 0] S1x1024.size inb_S1x1024_S1x1024_0_0).toLoadRect.idx (ix2 0 k) = (ix2 0 k : S1x1024.Idx) := by
    funext a
    refine Fin.ext ?_
    fin_cases a <;> exact (Nat.zero_add _).trans (Nat.one_mul _)
  exact congrArg₂ (fun f g => norm f g i) (funext fun k => (e0 k).trans (congrArg x0 (d0 k))) (funext fun k => (e1 k).trans (congrArg x1 (d1 k)))

/-- A chunk of the weights. -/
theorem chunk_at (arg6 : Memref sig .tc .vmem S1024x5632 .bf16) (harg6 : arg6.IsWhole) (x4 : Vec Ideal S1024x5632 .bf16) {o : ℕ}
    (h : ∀ a, (![0, o] : Fin 2 → ℕ) a + S1024x256.size a ≤ S1024x5632.size a) (i : Fin 1024) (j : Fin 256) (k : Fin 5632) (hk : k.val = o + j.val) :
    View.readAt (Elt Ideal) arg6.view (Rect.unit (s := S1024x5632) ![0, o] S1024x256.size h).toLoadRect (harg6.unread x4) (ix2 i j) = x4 (ix2 i k) := by
  refine (harg6.readAt_unread (Val := Elt Ideal) x4 (Rect.unit (s := S1024x5632) ![0, o] S1024x256.size h).toLoadRect (ix2 i j)).trans (congrArg x4 ?_)
  funext a
  refine Fin.ext ?_
  fin_cases a
  · exact (Nat.zero_add _).trans (Nat.one_mul _)
  · exact (congrArg (o + ·) (Nat.one_mul _)).trans hk.symm

variable (m : (ℓ : Loc nD τ sig) → Buf (Elt Ideal) ℓ) (c : Dev nD) (t : Fin cfg0.N)

section Sums
variable {L : FVec Ideal S512x1024 .bf16} {w : Vec Ideal S1024x256 .bf16}
  (hL : ∀ r i, L (ix2 r i) = norm (fun k => (show Vec Ideal S1x512x1024 .f32 from iblk m c 0 t) (ix3 0 r k)) (fun k => (show Vec Ideal S1x1024 .f32 from iblk m c 1 t) (ix2 0 k)) i)
include hL

theorem hn_at (r : Fin 512) (i : Fin 1024) : L (ix2 r i) = (args m c).hn (seqOf t) (posOf t r) i := by
  rw [hL]
  exact congrArg₂ (fun f g => norm f g i) (funext fun k => blk0_at m c t r k) (funext fun k => blk1_at m c t k)

/-- A chunk of the gate. -/
theorem z_sum {o : ℕ} (ho : 1792 ≤ o ∧ o + 256 ≤ 2560)
    (hw : ∀ (i : Fin 1024) (j : Fin 256), w (ix2 i j) = (show Vec Ideal S1024x5632 .bf16 from iblk m c 4 t) (ix2 i ⟨o + j.val, by omega⟩))
    (r : Fin 512) (j : Fin 256) (k : Fin 768) (hk : 1792 + k.val = o + j.val) :
    ∑ i, L (ix2 r i) * w (ix2 i j) = (args m c).z (seqOf t) (posOf t r) k := by
  unfold Args.z Args.p
  refine Finset.sum_congr rfl fun i _ => ?_
  rw [hn_at m c t hL, hw, blk4_at m c t i _ ⟨by simp only []; omega, by simp only []; omega⟩, if_neg (by simp only []; omega), mul_one]
  refine congrArg (fun n => (args m c).hn (seqOf t) (posOf t r) i * (args m c).w i n) (Fin.ext ?_)
  simp only []
  omega

/-- The memory queries. -/
theorem qm_sum (hw : ∀ (i : Fin 1024) (j : Fin 256), w (ix2 i j) = (show Vec Ideal S1024x5632 .bf16 from iblk m c 4 t) (ix2 i ⟨1536 + j.val, by omega⟩))
    (r : Fin 512) (j : Fin 256) : ∑ i, L (ix2 r i) * w (ix2 i j) = (args m c).qm (seqOf t) (posOf t r) j := by
  unfold Args.qm Args.p
  refine Eq.trans ?_ (sum_mul_coe _ (by norm_num)).symm
  refine Finset.sum_congr rfl fun i _ => ?_
  rw [hn_at m c t hL, hw, blk4_at m c t i _ ⟨by simp only []; omega, by simp only []; omega⟩, if_pos (by simp only []; omega), ← mul_assoc]
  refine congrArg (fun n => (args m c).hn (seqOf t) (posOf t r) i * (args m c).w i n * _) (Fin.ext ?_)
  simp only []
  omega

end Sums

theorem exists_ix3 {a b d : ℕ} (x : (⟨3, ![1, a, b]⟩ : Shape).Idx) : ∃ r j, x = ix3 0 r j := by
  refine ⟨x 1, x 2, funext fun i => ?_⟩
  fin_cases i
  · exact Subsingleton.elim (α := Fin 1) _ _
  · rfl
  · rfl

/-- An array whose pieces are blocks of `G` and cover an index holds `G` there. -/
theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- The memory queries of a grid point's tile. -/
def tile6 : Vec Ideal S1x512x256 .bf16 := fun y => (args m c).qm (seqOf t) (posOf t (y 1)) (y 2)

/-- The gate of a grid point's tile. -/
def tile7 : Vec Ideal S1x512x768 .f32 := fun y => (args m c).z (seqOf t) (posOf t (y 1)) (y 2)

/-- The memory queries that a grid point writes. -/
theorem out6_at (y : S1x512x256.Idx) :
    (show Vec Ideal S1x512x256 .bf16 from (outsAt0 m c t).2.1) y = tile6 m c t y := by
  unfold outsAt0
  dsimp only
  unfold out0_A_6
  rw [View.read_writes_junk_eq_canon]
  refine canon_of_piecesOf (tile6 m c t) _ ?_ y (cover0_A_6 ..)
  unfold kernelRun0_A
  refine ⟨fun x => ?_, trivial⟩
  obtain ⟨r, j, rfl⟩ := exists_ix3 (a := 512) (b := 256) (d := 0) x
  refine (pay25_at _ _ r j).trans ((qm_sum m c t (fun r i => r1_at ..) (fun i j => chunk_at _ _ _ _ i j _ rfl) r j).trans ?_)
  refine congrArg₂ (fun r j => (args m c).qm (seqOf t) (posOf t r) j) (Fin.ext ?_) (Fin.ext ?_)
  · exact ((Nat.zero_add _).trans (Nat.one_mul _)).symm
  · exact ((Nat.zero_add _).trans (Nat.one_mul _)).symm

/-- The gate that a grid point writes. -/
theorem out7_at (y : S1x512x768.Idx) :
    (show Vec Ideal S1x512x768 .f32 from (outsAt0 m c t).2.2.1) y = tile7 m c t y := by
  unfold outsAt0
  dsimp only
  unfold out0_A_7
  rw [View.read_writes_junk_eq_canon]
  refine canon_of_piecesOf (tile7 m c t) _ ?_ y (cover0_A_7 ..)
  unfold kernelRun0_A
  have row (r : Fin 512) : r.val = 0 + 1 * r.val := ((Nat.zero_add _).trans (Nat.one_mul _)).symm
  refine ⟨fun x => ?_, fun x => ?_, fun x => ?_, trivial⟩ <;> obtain ⟨r, j, rfl⟩ := exists_ix3 (a := 512) (b := 256) (d := 0) x
  · refine (pay28_at _ _ r j).trans ((z_sum m c t (fun r i => r1_at ..) (o := 2304) (by omega) (fun i j => chunk_at _ _ _ _ i j _ rfl) r j ⟨512 + 1 * j.val, by omega⟩ (by simp only []; omega)).trans ?_)
    exact congrArg (fun r => (args m c).z (seqOf t) (posOf t r) _) (Fin.ext (row r))
  · refine (pay27_at _ _ r j).trans ((z_sum m c t (fun r i => r1_at ..) (o := 2048) (by omega) (fun i j => chunk_at _ _ _ _ i j _ rfl) r j ⟨256 + 1 * j.val, by omega⟩ (by simp only []; omega)).trans ?_)
    exact congrArg (fun r => (args m c).z (seqOf t) (posOf t r) _) (Fin.ext (row r))
  · refine (pay26_at _ _ r j).trans ((z_sum m c t (fun r i => r1_at ..) (o := 1792) (by omega) (fun i j => chunk_at _ _ _ _ i j _ rfl) r j ⟨0 + 1 * j.val, by omega⟩ (by simp only []; omega)).trans ?_)
    exact congrArg (fun r => (args m c).z (seqOf t) (posOf t r) _) (Fin.ext (row r))

/-- The memory queries' array. -/
theorem result6 : (dats m 0 c).arrAt 6 cfg0.N = fun i : S8x2048x256.Idx => (args m c).qm (i 0) (i 1) (i 2) := by
  refine (dats m 0 c).arrAt_eq_of_covers 6 _ (by decide +kernel) fun t hf y => ?_
  blk_simp
  rw [after0_6]
  refine (out6_at m c t _).trans ?_
  have hy0 : (y 0).val < 1 := (y 0).isLt
  have hN := lt_of_lt_of_eq t.isLt N_0
  have b0 : ((((cfg0.win 6).blk t).view.emb y 0 : Fin 8) : ℕ) = t.val / 4 := by
    blk_simp [idx t]
  have b1 : ((((cfg0.win 6).blk t).view.emb y 1 : Fin 2048) : ℕ) = 512 * (t.val % 4) + (y 1).val := by
    blk_simp [idx t]
    omega
  have b2 : ((((cfg0.win 6).blk t).view.emb y 2 : Fin 256) : ℕ) = (y 2).val := by blk_simp [idx t]
  have a0 : seqOf t = ((cfg0.win 6).blk t).view.emb y 0 := Fin.ext b0.symm
  have a1 : posOf t (y 1) = ((cfg0.win 6).blk t).view.emb y 1 := Fin.ext b1.symm
  have a2 : (y 2 : Fin 256) = ((cfg0.win 6).blk t).view.emb y 2 := Fin.ext b2.symm
  exact (congrArg₂ (fun b s => (args m c).qm b s (y 2)) a0 a1).trans (congrArg ((args m c).qm _ _) a2)

/-- The gate's array. -/
theorem result7 : (dats m 0 c).arrAt 7 cfg0.N = fun i : S8x2048x768.Idx => (args m c).z (i 0) (i 1) (i 2) := by
  refine (dats m 0 c).arrAt_eq_of_covers 7 _ (by decide +kernel) fun t hf y => ?_
  blk_simp
  rw [after0_7]
  refine (out7_at m c t _).trans ?_
  have hy0 : (y 0).val < 1 := (y 0).isLt
  have hN := lt_of_lt_of_eq t.isLt N_0
  have b0 : ((((cfg0.win 7).blk t).view.emb y 0 : Fin 8) : ℕ) = t.val / 4 := by
    blk_simp [idx t]
  have b1 : ((((cfg0.win 7).blk t).view.emb y 1 : Fin 2048) : ℕ) = 512 * (t.val % 4) + (y 1).val := by
    blk_simp [idx t]
    omega
  have b2 : ((((cfg0.win 7).blk t).view.emb y 2 : Fin 768) : ℕ) = (y 2).val := by blk_simp [idx t]
  have a0 : seqOf t = ((cfg0.win 7).blk t).view.emb y 0 := Fin.ext b0.symm
  have a1 : posOf t (y 1) = ((cfg0.win 7).blk t).view.emb y 1 := Fin.ext b1.symm
  have a2 : (y 2 : Fin 768) = ((cfg0.win 7).blk t).view.emb y 2 := Fin.ext b2.symm
  exact (congrArg₂ (fun b s => (args m c).z b s (y 2)) a0 a1).trans (congrArg ((args m c).z _ _) a2)

end Cert.ProjIdeal
end
-- ==== Proof.ProjReference.lean ====
module
public import proofs.«01_k».proof.Proof.Gen.ProjRefIdeal.Run
public import proofs.«01_k».proof.Proof.ProjSpec
public import Idealize.ShloMosaic.Lib.Pointwise
@[expose] public section
set_option maxRecDepth 16384

/-! # The reference of the memory queries and the gate -/

noncomputable section
namespace Cert.ProjRefIdeal
open Idealize.ShloMosaic Idealize.ShloMosaic.TcCoe Idealize.SL.Sem
open Cert.ProjRefIdeal.Gen Cert.ProjRefIdeal.Value Cert.Reals Cert.ProjSpec

variable (m : (ℓ : Loc nD τ sig) → Buf (Elt Ideal) ℓ) (ρ : Dev nD → PrngReg)

/-- The reference's arguments by coordinates. -/
def args (c : Dev nD) : Args where
  x b s k := (show FVec Ideal S8x2048x1024 .f32 from m ((c.tc : Thread nD τ).loc main_arg0)) (ix3 b s k)
  g k := (show FVec Ideal S2x1024 .f32 from m ((c.tc : Thread nD τ).loc main_arg3)) (ix2 0 k)
  w i k := (show FVec Ideal S1x1024x5632 .f32 from m ((c.tc : Thread nD τ).loc main_arg4)) (ix3 0 i k)

/-- The projection as the reference computes it. -/
def proj (x : FVec Ideal S8x2048x1024 .f32) (g : FVec Ideal S2x1024 .f32) (w : FVec Ideal S1x1024x5632 .f32) : FVec Ideal S8x2048x5632 .f32 :=
    Host.dotGeneral dot_S8x2048x1024_S1024x5632_S8x2048x5632_2_0_01_1_n_n none (mulf (mulf x (broadcastInDim S8x2048x1024 ![0, 1, 2]
      bcast_S8x2048x1_S8x2048x1024_0_1_2 (Host.rsqrt (addf (Host.divf (broadcastInDim S8x2048x1 ![0, 1] bcast_S8x2048_S8x2048x1_0_1 (Host.reduceAdd
      (mulf x x) (constant S_ .f32 0x00000000#32) reducesTo_S8x2048x1024_S8x2048_d2 h_S_)) (broadcastInDim S8x2048x1 ![] bcast_S_S8x2048x1 (constant S_
      .f32 0x44800000#32))) (broadcastInDim S8x2048x1 ![] bcast_S_S8x2048x1 (constant S_ .f32 0x358637BD#32)))))) (broadcastInDim S8x2048x1024 ![0, 1,
      2] bcast_S1x1x1024_S8x2048x1024_0_1_2 (broadcastInDim S1x1x1024 ![2] bcast_S1024_S1x1x1024_2 (shapeCast _ (extractStridedSlice S1x1024 ![0, 0] g
      slices_S2x1024_S1x1024_0_0) shapeCasts_S1x1024_S1024)))) (shapeCast _ w shapeCasts_S1x1024x5632_S1024x5632)

theorem proj_at (x : FVec Ideal S8x2048x1024 .f32) (g : FVec Ideal S2x1024 .f32) (w : FVec Ideal S1x1024x5632 .f32) (b : Fin 8) (s : Fin 2048)
    (k : Fin 5632) : proj x g w (ix3 b s k) = ∑ i, norm (fun k => x (ix3 b s k)) (fun k => g (ix2 0 k)) i * w (ix3 0 i k) := by
  pointwise [proj]
  rfl

/-- The columns of the memory queries, scaled. -/
theorem qm_at (E : FVec Ideal S8x2048x5632 .f32) (b : Fin 8) (s : Fin 2048) (j : Fin 256) :
    (truncf .bf16 (mulf (extractStridedSlice S8x2048x256 ![0, 0, 4608] E slices_S8x2048x5632_S8x2048x256_0_0_4608)
      (broadcastInDim S8x2048x256 ![] bcast_S_S8x2048x256 (constant S_ .f32 0x3E000000#32))) bitsLt_bf16_f32 : FVec Ideal S8x2048x256 .bf16) (ix3 b s j)
      = E (ix3 b s ⟨4608 + j.val, by omega⟩) * ((1 / 8 : ℝ) : EReal) := by
  pointwise
  rw [ofBits_eighth]

/-- The columns of the gate. -/
theorem z_at (E : FVec Ideal S8x2048x5632 .f32) (b : Fin 8) (s : Fin 2048) (j : Fin 768) :
    extractStridedSlice S8x2048x768 ![0, 0, 4864] E slices_S8x2048x5632_S8x2048x768_0_0_4864 (ix3 b s j) = E (ix3 b s ⟨4864 + j.val, by omega⟩) := by
  pointwise

theorem eq_ix3 {a b d : ℕ} (i : (⟨3, ![a, b, d]⟩ : Shape).Idx) : i = ix3 (i 0) (i 1) (i 2) := by
  funext x; fin_cases x <;> rfl

/-- The reference's two results, entry by entry. -/
theorem results : θ_run defs (onTc (τ := τ) (main (F := Ideal))) ⟨m, fun _ => 0, ρ⟩ fun r => ∀ c : Dev nD,
      r.2.mem ((c.tc : Thread nD τ).loc main_v24) = (fun i : S8x2048x256.Idx => (args m c).qm (i 0) (i 1) (i 2))
      ∧ r.2.mem ((c.tc : Thread nD τ).loc main_v21) = (fun i : S8x2048x768.Idx => (args m c).z (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  · refine funext fun i => (congrArg _ (eq_ix3 i)).trans ((qm_at (proj (m ((c.tc : Thread nD τ).loc main_arg0)) (m ((c.tc : Thread nD τ).loc main_arg3))
      (m ((c.tc : Thread nD τ).loc main_arg4))) (i 0) (i 1) (i 2)).trans ?_)
    exact congrArg (· * ((1 / 8 : ℝ) : EReal)) (proj_at _ _ _ (i 0) (i 1) _)
  · refine funext fun i => (congrArg _ (eq_ix3 i)).trans ((z_at (proj (m ((c.tc : Thread nD τ).loc main_arg0)) (m ((c.tc : Thread nD τ).loc main_arg3))
      (m ((c.tc : Thread nD τ).loc main_arg4))) (i 0) (i 1) (i 2)).trans ?_)
    exact proj_at _ _ _ (i 0) (i 1) _

end Cert.ProjRefIdeal
end
-- ==== Proof.Reference.lean ====
module
public import proofs.«01_k».proof.Proof.Gen.TailRefIdeal.Run
public import proofs.«01_k».proof.Proof.Spec
@[expose] public section
set_option maxRecDepth 16384

/-! # The reference's arrays, entry by entry -/

noncomputable section
namespace Cert.TailRefIdeal
open Idealize.ShloMosaic Idealize.ShloMosaic.TcCoe Idealize.SL.Sem
open Cert.TailRefIdeal.Gen Cert.TailRefIdeal.Value Cert.Reals Cert.Spec

variable (W : Valuation τ sig (Elt Ideal))

/-- The reference's arguments by coordinates. -/
def args : Args where
  x b s c := (show FVec Ideal S8x2048x1024 .f32 from W (Proc.devRef .tc main_arg0)) (ix3 b s c)
  mix b s c := (show FVec Ideal S8x2048x512 .f32 from W (Proc.devRef .tc main_arg1)) (ix3 b s c)
  q b s c := (show FVec Ideal S8x2048x256 .bf16 from W (Proc.devRef .tc main_arg2)) (ix3 b s c)
  z b s c := (show FVec Ideal S8x2048x768 .f32 from W (Proc.devRef .tc main_arg3)) (ix3 b s c)
  kv i b j c := (show FVec Ideal S2x8x256x512 .bf16 from W (Proc.devRef .tc main_arg4)) (ix4 i b j c)
  wo0 k c := (show FVec Ideal S1x768x1024 .f32 from W (Proc.devRef .tc main_arg5)) (ix3 0 k c)
  g c := (show FVec Ideal S2x1024 .f32 from W (Proc.devRef .tc main_arg6)) (ix2 1 c)
  w1 i k := (show FVec Ideal S1x1024x4608 .f32 from W (Proc.devRef .tc main_arg7)) (ix3 0 i k)
  cw k c := (show FVec Ideal S1x3x1024 .f32 from W (Proc.devRef .tc main_arg8)) (ix3 0 k c)
  wo1 k c := (show FVec Ideal S1x1280x1024 .f32 from W (Proc.devRef .tc main_arg9)) (ix3 0 k c)
  fg c := (show FVec Ideal S1024 .f32 from W (Proc.devRef .tc main_arg10)) (ix1 c)

/-- The maximum over the memories, as the greatest entry of the row of scores. -/
theorem hostMax_at (x : FVec Ideal S8x4x2048x256 .f32) (b : Fin 8) (h : Fin 4) (s : Fin 2048) :
    Host.reduce FloatOps.maximumf x (constant S_ .f32 0xFF800000#32) reducesTo_S8x4x2048x256_S8x4x2048_d3 h_S_ (ix3 b h s)
      = rowMax fun j => x (ix4 b h s j) := by
  rw [Host.reduce_eq_fold, Shape.ReducesTo.fold_fiber_r4_a3, rowMax, ← ofBits_neg_inf]
  rfl

/-- The exponential of scores less a row maximum taken against minus infinity. -/
theorem expSub_at (x : FVec Ideal S8x4x2048x256 .f32) (M : FVec Ideal S8x4x2048 .f32) (b : Fin 8) (h : Fin 4) (s : Fin 2048) (j : Fin 256) :
    Host.exp (subf x (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant S_ .f32 0xFF800000#32)) M)))) (ix4 b h s j)
      = Ideal.exp (x (ix4 b h s j) - max (Ideal.ofBits .f32 4286578688#32) (M (ix3 b h s))) := by
  pointwise

/-- Minus infinity changes no maximum. -/
theorem exp_max (y M : EReal) : Ideal.exp (y - max (Ideal.ofBits .f32 4286578688#32) M) = Ideal.exp (y - M) := by
  rw [ofBits_neg_inf, max_eq_right bot_le]

/-- The softmax's numerators, from any array of scores that is known entry by entry. -/
theorem expw_at (x : FVec Ideal S8x4x2048x256 .f32) (b : Fin 8) (h : Fin 4) (s : Fin 2048) (S : Fin 256 → EReal)
    (hS : ∀ j, x (ix4 b h s j) = S j) (j : Fin 256) :
    Host.exp (subf x (broadcastInDim S8x4x2048x256 ![0, 1, 2, 3] bcast_S8x4x2048x1_S8x4x2048x256_0_1_2_3
      (broadcastInDim S8x4x2048x1 ![0, 1, 2] bcast_S8x4x2048_S8x4x2048x1_0_1_2
        (maximumf (broadcastInDim S8x4x2048 ![] bcast_S_S8x4x2048 (constant S_ .f32 0xFF800000#32))
          (Host.reduce FloatOps.maximumf x (constant S_ .f32 0xFF800000#32) reducesTo_S8x4x2048x256_S8x4x2048_d3 h_S_))))) (ix4 b h s j)
      = expw S j := by
  rw [expSub_at, exp_max, hostMax_at, expw, hS j, show (fun j => x (ix4 b h s j)) = S from funext hS]

/-- Layer 0's scores. -/
theorem v11_at (b : Fin 8) (h : Fin 4) (s : Fin 2048) (j : Fin 256) :
    (show FVec Ideal S8x4x2048x256 .f32 from res_main_v11 W) (ix4 b h s j)
      = score ((args W).q b s) ((args W).kv 0 b) h j := by
  pointwise [res_main_v11, res_main_v3, res_main_v0]
  rfl

theorem v18_at (b : Fin 8) (h : Fin 4) (s : Fin 2048) (j : Fin 256) :
    (show FVec Ideal S8x4x2048x256 .f32 from res_main_v18 W) (ix4 b h s j)
      = expw (score ((args W).q b s) ((args W).kv 0 b) h) j :=
  expw_at (res_main_v11 W) b h s _ (fun j => v11_at W b h s j) j

set_option maxHeartbeats 2000000 in
/-- The residual stream after layer 0. -/
theorem v31_at (b : Fin 8) (s : Fin 2048) (c : Fin 1024) :
    (show FVec Ideal S8x2048x1024 .f32 from res_main_v31 W) (ix3 b s c) = (args W).h1 b s c := by
  have h18 := v18_at W
  generalize h : res_main_v18 W = E at h18
  dsimp only at h18
  pointwise [res_main_v31, res_main_v3, res_main_v0]
  rw [h]
  simp only [h18]
  rw [Args.h1, sum_split 512 256 rfl]
  refine add_sums_congr rfl (fun k => ?_) (fun k => ?_)
  · rw [Args.y0, dif_pos (show (⟨k.val, by omega⟩ : Fin 768).val < 512 from k.isLt)]
    rfl
  · have e : k.val / 64 * 64 + k.val % 64 = k.val := by omega
    have e' : 512 + k.val - 512 = k.val := by omega
    rw [Args.y0, dif_neg (show ¬ (⟨512 + k.val, by omega⟩ : Fin 768).val < 512 by simp)]
    simp only [e, e']
    rfl

/-- Layer 1's input projection. -/
theorem v48_at (b : Fin 8) (s : Fin 2048) (k : Fin 4608) :
    (show FVec Ideal S8x2048x4608 .f32 from res_main_v48 W) (ix3 b s k) = (args W).p b s k := by
  have h31 := v31_at W
  generalize h : res_main_v31 W = E at h31
  dsimp only at h31
  pointwise [res_main_v48]
  rw [h]
  simp only [h31]
  rfl
end Cert.TailRefIdeal
end
-- ==== Proof.Reference1.lean ====
module
public import proofs.«01_k».proof.Proof.Reference
@[expose] public section
set_option maxRecDepth 16384

/-! # The reference's second layer and result, entry by entry -/

noncomputable section
namespace Cert.TailRefIdeal
open Idealize.ShloMosaic Idealize.ShloMosaic.TcCoe Idealize.SL.Sem
open Cert.TailRefIdeal.Gen Cert.TailRefIdeal.Value Cert.Reals Cert.Spec

variable (W : Valuation τ sig (Elt Ideal))

/-- The word zero as a number. -/
theorem sitofp_zero : FloatOps.sitofp (F := Ideal) .f32 0#32 = (0 : EReal) := by
  simp [FloatOps.sitofp]

/-- The convolution's operand, two zeros before the sequence. -/
theorem v56_at (b : Fin 8) (s : Fin 2050) (c : Fin 1024) :
    (show FVec Ideal S8x2050x1024 .f32 from res_main_v56 W) (ix3 b s c) = (args W).aPad b (6 + s.val) c := by
  have h48 := v48_at W
  generalize h : res_main_v48 W = E at h48
  dsimp only at h48
  pointwise [res_main_v56]
  rw [h]
  simp only [h48, sitofp_zero]
  have e : 6 + s.val - 8 = s.val - 2 := by omega
  by_cases h2 : 2 ≤ s.val ∧ s.val - 2 < 2048
  · rw [dif_pos h2, Args.aPad, dif_pos (by omega)]
    simp only [e]
    rfl
  · rw [dif_neg h2, Args.aPad, dif_neg (by omega)]

/-- Layer 1's scores. -/
theorem v87_at (b : Fin 8) (h : Fin 4) (s : Fin 2048) (j : Fin 256) :
    (show FVec Ideal S8x4x2048x256 .f32 from res_main_v87 W) (ix4 b h s j) = (args W).score1 b s h j := by
  have h48 := v48_at W
  generalize h : res_main_v48 W = E at h48
  dsimp only at h48
  pointwise [res_main_v87, res_main_v79, res_main_v0]
  rw [h]
  simp only [h48]
  rw [ofBits_eighth]
  rfl

theorem v94_at (b : Fin 8) (h : Fin 4) (s : Fin 2048) (j : Fin 256) :
    (show FVec Ideal S8x4x2048x256 .f32 from res_main_v94 W) (ix4 b h s j) = expw ((args W).score1 b s h) j :=
  expw_at (res_main_v87 W) b h s _ (fun j => v87_at W b h s j) j

set_option maxHeartbeats 1000000 in
/-- The residual stream after layer 1. -/
theorem v107_at (b : Fin 8) (s : Fin 2048) (c : Fin 1024) :
    (show FVec Ideal S8x2048x1024 .f32 from res_main_v107 W) (ix3 b s c) = (args W).h2 b s c := by
  have h94 := v94_at W
  have h56 := v56_at W
  have h48 := v48_at W
  have h31 := v31_at W
  generalize e94 : res_main_v94 W = E94 at h94
  generalize e56 : res_main_v56 W = E56 at h56
  generalize e48 : res_main_v48 W = E48 at h48
  generalize e31 : res_main_v31 W = E31 at h31
  dsimp only at h94 h56 h48 h31
  pointwise [res_main_v107, res_main_v53, res_main_v55, res_main_v79, res_main_v0]
  rw [e94, e56, e48, e31]
  simp only [h94, h56, h48, h31]
  rw [Args.h2, sum_split 1024 256 rfl]
  refine add_sums_congr rfl (fun k => ?_) (fun k => ?_)
  · rw [Args.y1, dif_pos (show (⟨k.val, by omega⟩ : Fin 1280).val < 1024 from k.isLt), Args.conv]
    have e7 : 6 + (1 + s.val) = 7 + s.val := by omega
    have e8 : 6 + (2 + s.val) = 8 + s.val := by omega
    simp only [e7, e8]
    rfl
  · have e : k.val / 64 * 64 + k.val % 64 = k.val := by omega
    have e' : 1024 + k.val - 1024 = k.val := by omega
    rw [Args.y1, dif_neg (show ¬ (⟨1024 + k.val, by omega⟩ : Fin 1280).val < 1024 by simp)]
    simp only [e, e']
    rfl

/-- The result: the residual stream normalised. -/
theorem result_at (b : Fin 8) (s : Fin 2048) (c : Fin 1024) :
    (show FVec Ideal S8x2048x1024 .f32 from
      mulf (mulf (res_main_v107 W) (broadcastInDim S8x2048x1024 ![0, 1, 2] bcast_S8x2048x1_S8x2048x1024_0_1_2
        (Host.rsqrt (addf (Host.divf (broadcastInDim S8x2048x1 ![0, 1] bcast_S8x2048_S8x2048x1_0_1
          (Host.reduceAdd (mulf (res_main_v107 W) (res_main_v107 W)) (constant S_ .f32 0x00000000#32) reducesTo_S8x2048x1024_S8x2048_d2 h_S_))
          (broadcastInDim S8x2048x1 ![] bcast_S_S8x2048x1 (constant S_ .f32 0x44800000#32)))
          (broadcastInDim S8x2048x1 ![] bcast_S_S8x2048x1 (constant S_ .f32 0x358637BD#32))))))
        (broadcastInDim S8x2048x1024 ![0, 1, 2] bcast_S1x1x1024_S8x2048x1024_0_1_2
          (broadcastInDim S1x1x1024 ![2] bcast_S1024_S1x1x1024_2 (W (Proc.devRef .tc main_arg10))))) (ix3 b s c)
      = (args W).out b s c := by
  have h107 := v107_at W
  generalize e : res_main_v107 W = E at h107
  dsimp only at h107
  pointwise
  simp only [h107]
  rfl

end Cert.TailRefIdeal
end
-- ==== Proof.lean ====
module

public import proofs.«01_k».proof.Defs
public import proofs.«01_k».proof.Proof.Gen.Tail.Frame
public import proofs.«01_k».proof.Proof.Gen.TailIdeal.Value
public import proofs.«01_k».proof.Proof.Gen.TailRefIdeal.Run
public import proofs.«01_k».proof.Proof.Final
public import proofs.«01_k».proof.Proof.Pre
public import proofs.«01_k».proof.Proof.Gen.Proj.Frame
public import proofs.«01_k».proof.Proof.Gen.MemKv.Frame
public import proofs.«01_k».proof.Proof.KvFinal
public import proofs.«01_k».proof.Proof.KvReference
public import proofs.«01_k».proof.Proof.ProjFinal
public import proofs.«01_k».proof.Proof.ProjReference
public import proofs.«01_k».proof.Proof.Reference1
public import Idealize.ShloMosaic.Adequacy
public import Idealize.ShloMosaic.Init
public import Idealize.ShloMosaic.Lib.Quiescent

@[expose] public section

/-! # The proof of the certificate's claims -/

noncomputable section

namespace Cert.Proof

open Idealize.ShloMosaic Idealize.ShloMosaic.StableHlo Idealize.ShloMosaic.TcCoe Idealize.SL.Sem

theorem quiescent_TailRefIdeal : quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- Under the precondition, the kernel and the reference compute the same array. -/
theorem algebraic [hP : Cert.Pre_finite_attention_inputs.Facts] : algebraic_TailIdeal_TailRefIdeal_pre_finite_attention_inputs := by
  intro m ρ m' ρ' hpre hagree
  refine ⟨_, Cert.TailIdeal.Value.run (F := Ideal) m ρ, ?_⟩
  refine (θ_run Cert.TailRefIdeal.defs _ _).mono (fun _ h c => ⟨?_, (h c).2⟩) (Cert.TailRefIdeal.Value.run (F := Ideal) m' ρ')
  rw [(h c).1, Cert.TailIdeal.result_eq (Cert.TailIdeal.real_of_pre m hpre c)]
  have e : Cert.TailRefIdeal.args (launchContents m' c) = Cert.TailIdeal.args m c := by
    obtain ⟨e0, e1, e2, e3, e4, e5, e6, e7, e8, e9, e10⟩ := hagree c
    unfold Cert.TailRefIdeal.args Cert.TailIdeal.args
    rw [← e0, ← e1, ← e2, ← e3, ← e4, ← e5, ← e6, ← e7, ← e8, ← e9, ← e10]
  rw [← e]
  funext i
  have hi : i = ix3 (i 0) (i 1) (i 2) := by funext a; fin_cases a <;> rfl
  rw [hi]
  exact Cert.TailRefIdeal.result_at (launchContents m' c) (i 0) (i 1) (i 2)

theorem quiescent_ProjRefIdeal : quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The projection's kernel and reference compute the same memory queries and the same gate. -/
theorem algebraic_proj : algebraic_ProjIdeal_ProjRefIdeal := by
  intro m ρ m' ρ' _ hagree
  have e (c : Dev Cert.ProjIdeal.nD) : Cert.ProjRefIdeal.args m' c = Cert.ProjIdeal.args m c := by
    obtain ⟨e0, -, -, e3, e4⟩ := hagree c
    unfold Cert.ProjRefIdeal.args Cert.ProjIdeal.args
    rw [← e0, ← e3, ← e4]
  refine ⟨fun c => fun i : Cert.ProjIdeal.S8x2048x256.Idx => (Cert.ProjIdeal.args m c).qm (i 0) (i 1) (i 2),
    fun c => fun i : Cert.ProjIdeal.S8x2048x768.Idx => (Cert.ProjIdeal.args m c).z (i 0) (i 1) (i 2), ?_, ?_⟩
  · refine (θ_run Cert.ProjIdeal.defs _ _).mono (fun _ h c => ?_) (Cert.ProjIdeal.Value.run_blocks (F := Ideal) m ρ)
    obtain ⟨-, h6, h7, -, -, ha⟩ := h c
    exact ⟨h6.trans (Cert.ProjIdeal.result6 m c), h7.trans (Cert.ProjIdeal.result7 m c), ha⟩
  · refine (θ_run Cert.ProjRefIdeal.defs _ _).mono (fun _ h c => ?_) (Cert.ProjRefIdeal.results m' ρ')
    obtain ⟨h0, h1, ha⟩ := h c
    exact ⟨h0.trans (congrArg (fun (A : Cert.ProjSpec.Args) (i : Cert.ProjIdeal.S8x2048x256.Idx) => A.qm (i 0) (i 1) (i 2)) (e c)),
      h1.trans (congrArg (fun (A : Cert.ProjSpec.Args) (i : Cert.ProjIdeal.S8x2048x768.Idx) => A.z (i 0) (i 1) (i 2)) (e c)), ha⟩

theorem quiescent_MemKvRefIdeal : quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- The kernel and the reference compute the same keys and values of the memory tokens. -/
theorem algebraic_kv : algebraic_MemKvIdeal_MemKvRefIdeal := by
  intro m ρ m' ρ' _ hagree
  have e (c : Dev Cert.MemKvIdeal.nD) : Cert.MemKvRefIdeal.args m' c = Cert.MemKvIdeal.args m c := by
    obtain ⟨e0, e1, e2⟩ := hagree c
    unfold Cert.MemKvRefIdeal.args Cert.MemKvIdeal.args
    rw [← e0, ← e1, ← e2]
  refine ⟨fun c => fun i : Cert.MemKvIdeal.S2x8x256x512.Idx => (Cert.MemKvIdeal.args m c).kv (i 0) (i 1) (i 2) (i 3), ?_, ?_⟩
  · refine (θ_run Cert.MemKvIdeal.defs _ _).mono (fun _ h c => ?_) (Cert.MemKvIdeal.Value.run_blocks (F := Ideal) m ρ)
    exact ⟨(h c).1.trans (Cert.MemKvIdeal.result3 m c), (h c).2⟩
  · refine (θ_run Cert.MemKvRefIdeal.defs _ _).mono (fun _ h c => ?_) (Cert.MemKvRefIdeal.result m' ρ')
    exact ⟨(h c).1.trans (congrArg (fun (A : Cert.KvSpec.Args) (i : Cert.MemKvIdeal.S2x8x256x512.Idx) => A.kv (i 0) (i 1) (i 2) (i 3)) (e c)), (h c).2⟩

theorem claim : Cert.Claim := ⟨Cert.Tail.Gen.facts, Cert.TailIdeal.Gen.facts, Cert.TailRefIdeal.Gen.facts,
  Cert.Proj.Gen.facts, Cert.ProjIdeal.Gen.facts, Cert.ProjRefIdeal.Gen.facts,
  Cert.MemKv.Gen.facts, Cert.MemKvIdeal.Gen.facts, Cert.MemKvRefIdeal.Gen.facts, Cert.TailIdeal.preFacts,
  fun m ρ _ => Cert.Tail.Gen.frame m ρ, fun m ρ _ => Cert.TailIdeal.Gen.frame m ρ, fun m ρ _ => Cert.TailIdeal.Gen.frame m ρ,
  quiescent_TailRefIdeal, fun m ρ _ => quiescent_TailRefIdeal m ρ trivial,
  fun m ρ _ => Cert.Proj.Gen.frame m ρ, fun m ρ _ => Cert.ProjIdeal.Gen.frame m ρ, quiescent_ProjRefIdeal,
  fun m ρ _ => Cert.MemKv.Gen.frame m ρ, fun m ρ _ => Cert.MemKvIdeal.Gen.frame m ρ, quiescent_MemKvRefIdeal,
  (trivial : preserves_Tail_TailIdeal), algebraic (hP := Cert.TailIdeal.preFacts),
  (trivial : preserves_Proj_ProjIdeal), algebraic_proj,
  (trivial : preserves_MemKv_MemKvIdeal), algebraic_kv⟩

end Cert.Proof

end
